-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_127" .f32 0x3C010204#32 ((127⁻¹ : ℝ) : EReal)

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S8x4096x1024 : Shape := ⟨3, ![8, 4096, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩

class Facts : Prop where
  bcast_S_S1024 : S_.BroadcastsInDim S1024 (![] : Fin 0 → Fin S1024.rank)
  bcast_S_S4096x1024 : S_.BroadcastsInDim S4096x1024 (![] : Fin 0 → Fin S4096x1024.rank)
  bcast_S_S4096 : S_.BroadcastsInDim S4096 (![] : Fin 0 → Fin S4096.rank)
  bcast_S_S1024x4096 : S_.BroadcastsInDim S1024x4096 (![] : Fin 0 → Fin S1024x4096.rank)

variable [Facts]

def fn {F : FTy → Type} [FloatOps F] (main_arg0 : FVec F S8x4096x1024 .f32) (main_arg1 : FVec F S1024 .f32) (main_arg2 : FVec F S1024 .f32) (main_arg3 : FVec F S4096x1024 .f32) (main_arg4 : FVec F S4096 .f32) (main_arg5 : FVec F S4096 .f32) (main_arg6 : FVec F S4096 .f32) (main_arg7 : FVec F S1024x4096 .f32) (main_arg8 : FVec F S1024 .f32) : IVec S1024 1 × IVec S1024 1 × IVec S4096x1024 1 × IVec S4096 1 × IVec S4096 1 × IVec S1024x4096 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096 .f32 := Host.absf main_arg5
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_v12 : FVec F S4096 .f32 := Host.absf main_arg6
  let main_cst_3 : FVec F S_ .f32 := constant S_ .f32 0x7F800000#32
  let main_v13 : FVec F S4096 .f32 := broadcastInDim S4096 ![] bcast_S_S4096 main_cst_3
  let main_v14 : IVec S4096 1 := cmpf .olt main_v12 main_v13
  let main_v15 : FVec F S1024x4096 .f32 := Host.absf main_arg7
  let main_cst_4 : FVec F S_ .f32 := constant S_ .f32 0x7F800000#32
  let main_v16 : FVec F S1024x4096 .f32 := broadcastInDim S1024x4096 ![] bcast_S_S1024x4096 main_cst_4
  let main_v17 : IVec S1024x4096 1 := cmpf .olt main_v15 main_v16
  (main_v2, main_v5, main_v8, main_v11, main_v14, main_v17)
-- ==== Kernel.lean ====
abbrev S8x4096x1024 : Shape := ⟨3, ![8, 4096, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S32768x1024 : Shape := ⟨2, ![32768, 1024]⟩
abbrev S1x1024 : Shape := ⟨2, ![1, 1024]⟩
abbrev S1 : Shape := ⟨1, ![1]⟩
abbrev S1x1 : Shape := ⟨2, ![1, 1]⟩
abbrev S1x4096 : Shape := ⟨2, ![1, 4096]⟩
abbrev S1024x1024 : Shape := ⟨2, ![1024, 1024]⟩
abbrev S1024x1 : Shape := ⟨2, ![1024, 1]⟩

abbrev nBuf : Space → Nat
  | .hbm => 22
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S1024x4096, .f32⟩
  | .hbm, ⟨8, _⟩ => ⟨S1024, .f32⟩
  | .hbm, ⟨9, _⟩ => ⟨S32768x1024, .f32⟩
  | .hbm, ⟨10, _⟩ => ⟨S4096x1024, .bf16⟩
  | .hbm, ⟨11, _⟩ => ⟨S1024x4096, .bf16⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x1024, .f32⟩
  | .hbm, ⟨20, _⟩ => ⟨S32768x1024, .f32⟩
  | .hbm, ⟨21, _⟩ => ⟨S8x4096x1024, .f32⟩
  | .local _ .vmem, ⟨0, _⟩ => ⟨S4096x1024, .f32⟩
  | .local _ .vmem, ⟨1, _⟩ => ⟨S4096x1024, .bf16⟩
  | .local _ .vmem, ⟨2, _⟩ => ⟨S1024x4096, .f32⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x4096, .bf16⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S4096x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_stg6_0 : Ref sig .tc := ⟨.vmem, 11, rfl⟩
abbrev cc2_stg7_0 : Ref sig .tc := ⟨.vmem, 12, rfl⟩
abbrev cc2_stg8_0 : Ref sig .tc := ⟨.vmem, 13, rfl⟩
abbrev cc2_stg9_0 : Ref sig .tc := ⟨.vmem, 14, rfl⟩
abbrev cc2_stg9_1 : Ref sig .tc := ⟨.vmem, 15, rfl⟩
abbrev cc0_sem0_0 : DmaSem sig := 0
abbrev cc0_sem1_0 : DmaSem sig := 1
abbrev cc1_sem0_0 : DmaSem sig := 2
abbrev cc1_sem1_0 : DmaSem sig := 3
abbrev cc2_sem0_0 : DmaSem sig := 4
abbrev cc2_sem0_1 : DmaSem sig := 5
abbrev cc2_sem1_0 : DmaSem sig := 6
abbrev cc2_sem2_0 : DmaSem sig := 7
abbrev cc2_sem3_0 : DmaSem sig := 8
abbrev cc2_sem4_0 : DmaSem sig := 9
abbrev cc2_sem5_0 : DmaSem sig := 10
abbrev cc2_sem6_0 : DmaSem sig := 11
abbrev cc2_sem7_0 : DmaSem sig := 12
abbrev cc2_sem8_0 : DmaSem sig := 13
abbrev cc2_sem9_0 : DmaSem sig := 14
abbrev cc2_sem9_1 : DmaSem sig := 15

abbrev nD : Nat := 1
abbrev τ : Topo := Topo.v7x

variable {F : FTy → Type} [FloatOps F]

abbrev grid0 : Pipeline.Grid := .none

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

abbrev stage1_0 : Fin 1 → Memref sig .tc .vmem S1024x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x4096 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x4096 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S4096x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1024x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== KernelIdeal.lean ====
variable {F : FTy → Type} [FloatOps F] [Named F]
def κ : String → Option EReal := fun
  | "inv_127" => some ((127⁻¹ : ℝ) : EReal)
  | _ => none
-- ==== ReferenceIdeal.lean ====
abbrev S8x4096x1024 : Shape := ⟨3, ![8, 4096, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S1x1x4096 : Shape := ⟨3, ![1, 1, 4096]⟩

abbrev nBuf : Space → Nat
  | .hbm => 178
  | .vmem => 0
  | .smem => 0
  | _ => 0

abbrev hbmTy0_0 (i : Nat) : BufTy := match i % 128 with
  | 0 => ⟨S8x4096x1024, .f32⟩
  | 1 => ⟨S1024, .f32⟩
  | 2 => ⟨S1024, .f32⟩
  | 3 => ⟨S4096x1024, .f32⟩
  | 4 => ⟨S4096, .f32⟩
  | 5 => ⟨S4096, .f32⟩
  | 6 => ⟨S4096, .f32⟩
  | 7 => ⟨S1024x4096, .f32⟩
  | 8 => ⟨S1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S8x4096x1024, .f32⟩
  | 16 => ⟨S8x4096x1024, .f32⟩
  | 17 => ⟨S8x4096x1024, .f32⟩
  | 18 => ⟨S_, .f32⟩
  | 19 => ⟨S8x4096, .f32⟩
  | 20 => ⟨S8x4096x1, .f32⟩
  | 21 => ⟨S_, .f32⟩
  | 22 => ⟨S8x4096x1, .f32⟩
  | 23 => ⟨S8x4096x1, .f32⟩
  | 24 => ⟨S8x4096x1024, .f32⟩
  | 25 => ⟨S8x4096x1024, .f32⟩
  | 26 => ⟨S_, .f32⟩
  | 27 => ⟨S8x4096x1, .f32⟩
  | 28 => ⟨S8x4096x1, .f32⟩
  | 29 => ⟨S8x4096x1, .f32⟩
  | 30 => ⟨S8x4096x1024, .f32⟩
  | 31 => ⟨S8x4096x1024, .f32⟩
  | 32 => ⟨S1x1x1024, .f32⟩
  | 33 => ⟨S8x4096x1024, .f32⟩
  | 34 => ⟨S8x4096x1024, .f32⟩
  | 35 => ⟨S1x1x1024, .f32⟩
  | 36 => ⟨S8x4096x1024, .f32⟩
  | 37 => ⟨S8x4096x1024, .f32⟩
  | 38 => ⟨S8x4096x1024, .f32⟩
  | 39 => ⟨S_, .f32⟩
  | 40 => ⟨S8x4096, .f32⟩
  | 41 => ⟨S8x4096x1, .f32⟩
  | 42 => ⟨S_, .f32⟩
  | 43 => ⟨S_, .f32⟩
  | 44 => ⟨S8x4096x1, .f32⟩
  | 45 => ⟨S8x4096x1, .f32⟩
  | 46 => ⟨S_, .f32⟩
  | 47 => ⟨S8x4096x1, .f32⟩
  | 48 => ⟨S8x4096x1, .f32⟩
  | 49 => ⟨S8x4096x1024, .f32⟩
  | 50 => ⟨S8x4096x1024, .f32⟩
  | 51 => ⟨S8x4096x1024, .f32⟩
  | 52 => ⟨S_, .f32⟩
  | 53 => ⟨S_, .f32⟩
  | 54 => ⟨S_, .f32⟩
  | 55 => ⟨S8x4096x1024, .f32⟩
  | 56 => ⟨S8x4096x1024, .f32⟩
  | 57 => ⟨S_, .f32⟩
  | 58 => ⟨S8x4096x1024, .f32⟩
  | 59 => ⟨S8x4096x1024, .f32⟩
  | 60 => ⟨S8x4096x1024, .f32⟩
  | 61 => ⟨S8x4096x1024, .f32⟩
  | 62 => ⟨S4096x1024, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S4096x1024, .f32⟩
  | 73 => ⟨S4096x1024, .f32⟩
  | 74 => ⟨S4096x1024, .f32⟩
  | 75 => ⟨S_, .f32⟩
  | 76 => ⟨S_, .f32⟩
  | 77 => ⟨S_, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S4096x1024, .f32⟩
  | 84 => ⟨S4096x1024, .f32⟩
  | 85 => ⟨S8x4096x4096, .f32⟩
  | 86 => ⟨S1x1x4096, .f32⟩
  | 87 => ⟨S8x4096x4096, .f32⟩
  | 88 => ⟨S8x4096x4096, .f32⟩
  | 89 => ⟨S_, .f32⟩
  | 90 => ⟨S8x4096x4096, .f32⟩
  | 91 => ⟨S8x4096x4096, .f32⟩
  | 92 => ⟨S8x4096x4096, .f32⟩
  | 93 => ⟨S_, .f32⟩
  | 94 => ⟨S8x4096x4096, .f32⟩
  | 95 => ⟨S8x4096x4096, .f32⟩
  | 96 => ⟨S8x4096x4096, .f32⟩
  | 97 => ⟨S8x4096x4096, .f32⟩
  | 98 => ⟨S_, .f32⟩
  | 99 => ⟨S8x4096, .f32⟩
  | 100 => ⟨S8x4096x1, .f32⟩
  | 101 => ⟨S_, .f32⟩
  | 102 => ⟨S8x4096x1, .f32⟩
  | 103 => ⟨S8x4096x1, .f32⟩
  | 104 => ⟨S8x4096x4096, .f32⟩
  | 105 => ⟨S8x4096x4096, .f32⟩
  | 106 => ⟨S8x4096x4096, .f32⟩
  | 107 => ⟨S_, .f32⟩
  | 108 => ⟨S8x4096, .f32⟩
  | 109 => ⟨S8x4096x1, .f32⟩
  | 110 => ⟨S_, .f32⟩
  | 111 => ⟨S8x4096x1, .f32⟩
  | 112 => ⟨S8x4096x1, .f32⟩
  | 113 => ⟨S8x4096x4096, .f32⟩
  | 114 => ⟨S8x4096x4096, .f32⟩
  | 115 => ⟨S_, .f32⟩
  | 116 => ⟨S8x4096x1, .f32⟩
  | 117 => ⟨S8x4096x1, .f32⟩
  | 118 => ⟨S8x4096x1, .f32⟩
  | 119 => ⟨S8x4096x4096, .f32⟩
  | 120 => ⟨S8x4096x4096, .f32⟩
  | 121 => ⟨S1x1x4096, .f32⟩
  | 122 => ⟨S8x4096x4096, .f32⟩
  | 123 => ⟨S8x4096x4096, .f32⟩
  | 124 => ⟨S1x1x4096, .f32⟩
  | 125 => ⟨S8x4096x4096, .f32⟩
  | 126 => ⟨S8x4096x4096, .f32⟩
  | 127 => ⟨S8x4096x4096, .f32⟩
  | _ => ⟨S8x4096x1024, .f32⟩

abbrev hbmTy0_1 (i : Nat) : BufTy := match i % 128 with
  | 0 => ⟨S_, .f32⟩
  | 1 => ⟨S8x4096, .f32⟩
  | 2 => ⟨S8x4096x1, .f32⟩
  | 3 => ⟨S_, .f32⟩
  | 4 => ⟨S_, .f32⟩
  | 5 => ⟨S8x4096x1, .f32⟩
  | 6 => ⟨S8x4096x1, .f32⟩
  | 7 => ⟨S_, .f32⟩
  | 8 => ⟨S8x4096x1, .f32⟩
  | 9 => ⟨S8x4096x1, .f32⟩
  | 10 => ⟨S8x4096x4096, .f32⟩
  | 11 => ⟨S8x4096x4096, .f32⟩
  | 12 => ⟨S8x4096x4096, .f32⟩
  | 13 => ⟨S_, .f32⟩
  | 14 => ⟨S_, .f32⟩
  | 15 => ⟨S_, .f32⟩
  | 16 => ⟨S8x4096x4096, .f32⟩
  | 17 => ⟨S8x4096x4096, .f32⟩
  | 18 => ⟨S_, .f32⟩
  | 19 => ⟨S8x4096x4096, .f32⟩
  | 20 => ⟨S8x4096x4096, .f32⟩
  | 21 => ⟨S8x4096x4096, .f32⟩
  | 22 => ⟨S8x4096x4096, .f32⟩
  | 23 => ⟨S1024x4096, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S1024x4096, .f32⟩
  | 34 => ⟨S1024x4096, .f32⟩
  | 35 => ⟨S1024x4096, .f32⟩
  | 36 => ⟨S_, .f32⟩
  | 37 => ⟨S_, .f32⟩
  | 38 => ⟨S_, .f32⟩
  | 39 => ⟨S1024x4096, .f32⟩
  | 40 => ⟨S1024x4096, .f32⟩
  | 41 => ⟨S_, .f32⟩
  | 42 => ⟨S1024x4096, .f32⟩
  | 43 => ⟨S1024x4096, .f32⟩
  | 44 => ⟨S1024x4096, .f32⟩
  | 45 => ⟨S1024x4096, .f32⟩
  | 46 => ⟨S8x4096x1024, .f32⟩
  | 47 => ⟨S1x1x1024, .f32⟩
  | 48 => ⟨S8x4096x1024, .f32⟩
  | 49 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_call0_v0 : Ref sig .tc := ⟨.hbm, 43, rfl⟩
abbrev main_call0_v1 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_cst_8 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_9 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_cst_11 : Ref sig .tc := ⟨.hbm, 67, rfl⟩
abbrev main_call3_v0 : Ref sig .tc := ⟨.hbm, 68, rfl⟩
abbrev main_v39 : Ref sig .tc := ⟨.hbm, 69, rfl⟩
abbrev main_cst_12 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_13 : Ref sig .tc := ⟨.hbm, 75, rfl⟩
abbrev main_cst_14 : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_15 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_16 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_17 : Ref sig .tc := ⟨.hbm, 98, rfl⟩
abbrev main_v58 : Ref sig .tc := ⟨.hbm, 99, rfl⟩
abbrev main_v59 : Ref sig .tc := ⟨.hbm, 100, rfl⟩
abbrev main_cst_18 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_19 : Ref sig .tc := ⟨.hbm, 107, rfl⟩
abbrev main_v65 : Ref sig .tc := ⟨.hbm, 108, rfl⟩
abbrev main_v66 : Ref sig .tc := ⟨.hbm, 109, rfl⟩
abbrev main_cst_20 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_21 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_22 : Ref sig .tc := ⟨.hbm, 128, rfl⟩
abbrev main_v83 : Ref sig .tc := ⟨.hbm, 129, rfl⟩
abbrev main_v84 : Ref sig .tc := ⟨.hbm, 130, rfl⟩
abbrev main_cst_23 : Ref sig .tc := ⟨.hbm, 131, rfl⟩
abbrev main_call6_v0 : Ref sig .tc := ⟨.hbm, 132, rfl⟩
abbrev main_call6_v1 : Ref sig .tc := ⟨.hbm, 133, rfl⟩
abbrev main_v85 : Ref sig .tc := ⟨.hbm, 134, rfl⟩
abbrev main_cst_24 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_25 : Ref sig .tc := ⟨.hbm, 141, rfl⟩
abbrev main_cst_26 : Ref sig .tc := ⟨.hbm, 142, rfl⟩
abbrev main_call8_v0 : Ref sig .tc := ⟨.hbm, 143, rfl⟩
abbrev main_call8_v1 : Ref sig .tc := ⟨.hbm, 144, rfl⟩
abbrev main_call8_v2 : Ref sig .tc := ⟨.hbm, 145, rfl⟩
abbrev main_call8_v3 : Ref sig .tc := ⟨.hbm, 146, rfl⟩
abbrev main_call8_v4 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_27 : Ref sig .tc := ⟨.hbm, 152, rfl⟩
abbrev main_v95 : Ref sig .tc := ⟨.hbm, 153, rfl⟩
abbrev main_cst_28 : Ref sig .tc := ⟨.hbm, 154, rfl⟩
abbrev main_v96 : Ref sig .tc := ⟨.hbm, 155, rfl⟩
abbrev main_cst_29 : Ref sig .tc := ⟨.hbm, 156, rfl⟩
abbrev main_call9_v0 : Ref sig .tc := ⟨.hbm, 157, rfl⟩
abbrev main_v97 : Ref sig .tc := ⟨.hbm, 158, rfl⟩
abbrev main_cst_30 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_31 : Ref sig .tc := ⟨.hbm, 164, rfl⟩
abbrev main_cst_32 : Ref sig .tc := ⟨.hbm, 165, rfl⟩
abbrev main_call11_v0 : Ref sig .tc := ⟨.hbm, 166, rfl⟩
abbrev main_call11_v1 : Ref sig .tc := ⟨.hbm, 167, rfl⟩
abbrev main_call11_v2 : Ref sig .tc := ⟨.hbm, 168, rfl⟩
abbrev main_call11_v3 : Ref sig .tc := ⟨.hbm, 169, rfl⟩
abbrev main_call11_v4 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩

abbrev nD : Nat := 1
abbrev τ : Topo := Topo.v7x

variable {F : FTy → Type} [FloatOps F]
-- ==== Proof.Quantised.lean ====
/- The two weight quantisers as regions: after each, its result array holds what its body computes from the whole weight matrix. -/
module

public import proofs.«01_k».proof.Proof.Gen.KernelIdeal.Frame
public import Idealize.ShloMosaic.Lib.Pipeline.ValueKit

@[expose] public section

set_option maxRecDepth 16384

noncomputable section

namespace Cert.KernelIdeal.Regions

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- The first quantiser reads from the corner of its matrix. -/
theorem corner_in_arg : ∀ t : Fin cfg0.N, win0_0.index t = ![0, 0] := by decide +kernel
/-- The first quantiser writes from the corner of its result. -/
theorem corner_in_res : ∀ t : Fin cfg0.N, win0_1.index t = ![0, 0] := by decide +kernel
/-- The second quantiser reads from the corner of its matrix. -/
theorem corner_out_arg : ∀ t : Fin cfg1.N, win1_0.index t = ![0, 0] := by decide +kernel
/-- The second quantiser writes from the corner of its result. -/
theorem corner_out_res : ∀ t : Fin cfg1.N, win1_1.index t = ![0, 0] := by decide +kernel

/-- The first quantiser's one block is its whole matrix. -/
theorem block_in (c : Dev nD) (t : Fin cfg0.N) : iblk0 V c 0 t = V c main_arg3 := by
  funext j
  blk_simp [iblk0]
  refine congrArg (V c main_arg3) ?_
  blk_ext [corner_in_arg t]

/-- The first quantiser's result array. -/
theorem quantised_in (c : Dev nD) : (dat0 V c).arrAt 1 cfg0.N = k0_pay1 (F := Ideal) (V c main_arg3) := by
  refine (dat0 V c).arrAt_eq_of_covers 1 _ (by decide +kernel) fun t _ y => ?_
  blk_simp
  rw [after0_1, block_in]
  frame_out
  refine congrArg (k0_pay1 (F := Ideal) (V c main_arg3)) ?_
  blk_ext [corner_in_res t]

/-- The second quantiser's one block is its whole matrix. -/
theorem block_out (c : Dev nD) (t : Fin cfg1.N) : iblk1 V c 0 t = V c main_arg7 := by
  funext j
  blk_simp [iblk1]
  refine congrArg (V c main_arg7) ?_
  blk_ext [corner_out_arg t]

/-- The second quantiser's result array. -/
theorem quantised_out (c : Dev nD) : (dat1 V c).arrAt 1 cfg1.N = k1_pay1 (F := Ideal) (V c main_arg7) := by
  refine (dat1 V c).arrAt_eq_of_covers 1 _ (by decide +kernel) fun t _ y => ?_
  blk_simp
  rw [after1_1, block_out]
  frame_out
  refine congrArg (k1_pay1 (F := Ideal) (V c main_arg7)) ?_
  blk_ext [corner_out_res t]

end Cert.KernelIdeal.Regions

end
-- ==== Proof.Rows.lean ====
/- The mathematics of one row, over extended reals: the layernorm, the two quantisers, the gelu and the linear layers, each in
   the form the kernel computes it in and in the form the reference states it in. Nothing here mentions a program. -/
module

public import Idealize.ShloMosaic.PureOps.Ideal.Laws

@[expose] public section

noncomputable section

namespace Cert.Rows

open Idealize.ShloMosaic

/-- The mean of a row over `N`. -/
def mean {n : ℕ} (N : EReal) (x : Fin n → EReal) : EReal := Ideal.div (∑ k, x k) N

/-- Entry `i` of a row's layernorm before the gain: the deviation times the reciprocal root of the variance plus `1e-5`. -/
def standard {n : ℕ} (N : EReal) (x : Fin n → EReal) (i : Fin n) : EReal :=
  (x i - mean N x)
    * Ideal.rsqrt (mean N (fun k => (x k - mean N x) * (x k - mean N x)) + Ideal.ofBits .f32 0x3727C5AC#32)

/-- The layernorm of a row with gain `g` and offset `b`. -/
def norm {n : ℕ} (N : EReal) (x g b : Fin n → EReal) (i : Fin n) : EReal := standard N x i * g i + b i

/-- The largest absolute value of a row, at least `1e-5`. -/
def peak {n : ℕ} (h : Fin n → EReal) : EReal :=
  max (Finset.univ.fold max (Ideal.ofBits .f32 0xFF800000#32) (fun k => max (h k) (-h k))) (Ideal.ofBits .f32 0x3727C5AC#32)

/-- Entry `i` of a row at eight bits: scaled by 127 over the peak, rounded, kept within −128 and 127. -/
def level {n : ℕ} (h : Fin n → EReal) (i : Fin n) : EReal :=
  min (Ideal.ofBits .f32 0x42FE0000#32) (max (Ideal.ofBits .f32 0xC3000000#32)
    (Ideal.liftRound Ideal.roundHalfEven (h i * Ideal.div (Ideal.ofBits .f32 0x42FE0000#32) (peak h))))

/-- The row quantised and scaled back as the kernel does it: times the peak times the reciprocal of 127. -/
def actMul {n : ℕ} (h : Fin n → EReal) (i : Fin n) : EReal := level h i * (peak h * ((127⁻¹ : ℝ) : EReal))

/-- The row quantised and scaled back as the reference does it: divided by the scale. -/
def actDiv {n : ℕ} (h : Fin n → EReal) (i : Fin n) : EReal :=
  Ideal.div (level h i) (Ideal.div (Ideal.ofBits .f32 0x42FE0000#32) (peak h))

/-- The sum of a matrix's absolute values, row by row. -/
def total {a b : ℕ} (w : Fin a → Fin b → EReal) : EReal := ∑ p, ∑ q, max (w p q) (-w p q)

/-- A matrix's mean absolute value, at least `1e-5`, as the kernel computes it: the columns' sums summed, times the reciprocal
    of the number of entries. -/
def sizeMul {a b : ℕ} (w : Fin a → Fin b → EReal) : EReal :=
  max ((∑ q, ∑ p, max (w p q) (-w p q)) * Ideal.ofBits .f32 0x34800000#32) (Ideal.ofBits .f32 0x3727C5AC#32)

/-- The same as the reference states it: the sum over the number of entries. -/
def sizeDiv {a b : ℕ} (w : Fin a → Fin b → EReal) : EReal :=
  max (Ideal.ofBits .f32 0x3727C5AC#32) (Ideal.div (total w) (Ideal.ofBits .f32 0x4A800000#32))

/-- A weight scaled, rounded and kept within −1 and 1. -/
def ternary (s w : EReal) : EReal :=
  min 1 (max (Ideal.ofBits .f32 0xBF800000#32) (Ideal.liftRound Ideal.roundHalfEven (w * s)))

/-- The kernel's quantised weight: scaled back by the mean. -/
def weightMul {a b : ℕ} (w : Fin a → Fin b → EReal) (p : Fin a) (q : Fin b) : EReal :=
  ternary (Ideal.div 1 (sizeMul w)) (w p q) * sizeMul w

/-- The reference's quantised weight: divided by the scale. -/
def weightDiv {a b : ℕ} (w : Fin a → Fin b → EReal) (p : Fin a) (q : Fin b) : EReal :=
  Ideal.div (ternary (Ideal.div 1 (sizeDiv w)) (w p q)) (Ideal.div 1 (sizeDiv w))

/-- The gelu written with the error function. -/
def geluErf (u : EReal) : EReal :=
  Ideal.ofBits .f32 0x3F000000#32 * u * (1 + Ideal.erf (u * Ideal.ofBits .f32 0x3F3504F3#32))

/-- The gelu written with the complementary error function. -/
def geluErfc (u : EReal) : EReal :=
  Ideal.ofBits .f32 0x3F000000#32 * u * Ideal.erfc (-u * Ideal.ofBits .f32 0x3F3504F3#32)

/-- Output `p` of a linear layer over a row: the weight's row `p` against it, plus the bias. -/
def linear {n m : ℕ} (a : Fin n → EReal) (w : Fin m → Fin n → EReal) (c : Fin m → EReal) (p : Fin m) : EReal :=
  ∑ k, a k * w p k + c p

/-- One row of the kernel up to its second layernorm, over quantised weights `q`. -/
def hiddenMul {n m : ℕ} (N M : EReal) (x g b : Fin n → EReal) (q : Fin m → Fin n → EReal) (c g' b' : Fin m → EReal) :
    Fin m → EReal :=
  norm M (fun p => geluErf (linear (actMul (norm N x g b)) q c p)) g' b'

/-- One row of the reference up to its second layernorm, over quantised weights `q`. -/
def hiddenDiv {n m : ℕ} (N M : EReal) (x g b : Fin n → EReal) (q : Fin m → Fin n → EReal) (c g' b' : Fin m → EReal) :
    Fin m → EReal :=
  norm M (fun p => geluErfc (linear (actDiv (norm N x g b)) q c p)) g' b'

/-- One row of the kernel: both layers over the weights `w` and `v`. -/
def rowMul {n m : ℕ} (N M : EReal) (x g b : Fin n → EReal) (w : Fin m → Fin n → EReal) (c g' b' : Fin m → EReal)
    (v : Fin n → Fin m → EReal) (d : Fin n → EReal) : Fin n → EReal :=
  linear (actMul (hiddenMul N M x g b (weightMul w) c g' b')) (weightMul v) d

/-- One row of the reference: both layers over the weights `w` and `v`. -/
def rowDiv {n m : ℕ} (N M : EReal) (x g b : Fin n → EReal) (w : Fin m → Fin n → EReal) (c g' b' : Fin m → EReal)
    (v : Fin n → Fin m → EReal) (d : Fin n → EReal) : Fin n → EReal :=
  linear (actDiv (hiddenDiv N M x g b (weightDiv w) c g' b')) (weightDiv v) d

end Cert.Rows

end
-- ==== Proof.Payloads.lean ====
/- What the kernel's bodies compute, entry by entry, from the blocks they load: the weight quantiser's result is the quantised
   weight, and the fused body's result is, row by row, the row function. -/
module

public import proofs.«01_k».proof.Proof.Gen.KernelIdeal.Skeleton
public import proofs.«01_k».proof.Proof.Rows
public import Idealize.ShloMosaic.Lib.Pointwise
public import Idealize.ShloMosaic.PureOps.IdealRules

@[expose] public section

set_option maxRecDepth 16384

noncomputable section

namespace Cert.KernelIdeal.Payloads

open Idealize.ShloMosaic Cert.KernelIdeal Cert.KernelIdeal.Gen

/-- The constant named for the reciprocal of 127 is that reciprocal. -/
theorem inv_levels : Named.named (F := Ideal) κ "inv_127" (φ := .f32) 0x3C010204#32 = ((127⁻¹ : ℝ) : EReal) :=
  IdealRules.named_const.ideal_named_scalar _ _ _ _ rfl

/-- The absolute value of a scalar. -/
theorem abs_read (x : Ideal .f32) : FloatOps.absf x = max x (-x) := rfl

/-- The absolute values of a vector, at one entry. -/
theorem vabs_read {s : Shape} (v : FVec Ideal s .f32) (i : s.Idx) : absf v i = max (v i) (-v i) := rfl

/-- The error function of a scalar. -/
theorem erf_read (x : Ideal .f32) : FloatOps.erf x = Ideal.erf x := rfl

/-- Rounding a scalar to the nearest integer, ties to even. -/
theorem round_read (x : Ideal .f32) : FloatOps.roundeven x = Ideal.liftRound Ideal.roundHalfEven x := rfl

/-- A row's maximum, as the kernel's reduction along the lanes computes it, is the fold of `max` over the row. -/
theorem row_max {a b : ℕ} (v : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (r : Fin a) :
    multiReduction .maximumf [1] ⟨1, ![a]⟩ v acc h hφ hacc (ix1 r)
      = Finset.univ.fold max (Ideal.ofBits .f32 acc) (fun k : Fin b => v (ix2 r k)) := by
  rw [Ideal.multiReduction_maximumf_single]
  refine Finset.fold_congr fun k _ => congrArg v ?_
  funext c
  apply Fin.ext
  rw [Shape.Reduces.lift_val]
  fin_cases c <;> rfl

/-- The first weight quantiser writes the quantised first weight matrix. -/
theorem weight_in (w : Vec Ideal S4096x1024 .f32) (p : Fin 4096) (q : Fin 1024) :
    k0_pay1 w (ix2 p q) = Rows.weightMul (fun p q => w (ix2 p q)) p q := by
  pointwise [k0_pay1]
  simp only [Rows.weightMul, Rows.ternary, Rows.sizeMul, abs_read, round_read]

/-- The second weight quantiser writes the quantised second weight matrix. -/
theorem weight_out (w : Vec Ideal S1024x4096 .f32) (p : Fin 1024) (q : Fin 4096) :
    k1_pay1 w (ix2 p q) = Rows.weightMul (fun p q => w (ix2 p q)) p q := by
  pointwise [k1_pay1]
  simp only [Rows.weightMul, Rows.ternary, Rows.sizeMul, abs_read, round_read]

/-- The first layernorm of a block, at one entry. -/
theorem norm_in (x : Vec Ideal S1024x1024 .f32) (g b : Vec Ideal S1x1024 .f32) (r i : Fin 1024) :
    k2_pay2 x g b (ix2 r i) = Rows.norm (Ideal.ofBits .f32 0x44800000#32) (fun k => x (ix2 r k)) (fun k => g (ix2 0 k))
      (fun k => b (ix2 0 k)) i := by
  pointwise [k2_pay2]
  simp only [Rows.norm, Rows.standard, Rows.mean]

/-- A row's peak, from the vector `m` of the rows' largest absolute values. -/
theorem peak_of {b : ℕ} (h : FVec Ideal ⟨2, ![1024, b]⟩ .f32) (m : FVec Ideal S1024 .f32) (r : Fin 1024)
    (hm : m (ix1 r) = Finset.univ.fold max (Ideal.ofBits .f32 0xFF800000#32) (fun k : Fin b => absf h (ix2 r k))) :
    maximumf (shapeCast S1024x1 m shapeCasts_S1024_S1024x1) (broadcast S1024x1 (Scalar.ofBits .f32 0x3727C5AC#32)) (ix2 r 0)
      = Rows.peak (fun i => h (ix2 r i)) := by
  pointwise
  rw [hm]
  simp only [Rows.peak, vabs_read, abs_read]

/-- The peaks of the first layernorm's rows. -/
theorem peak_in (x : Vec Ideal S1024x1024 .f32) (g b : Vec Ideal S1x1024 .f32) (r : Fin 1024) :
    k2_pay3 x g b (ix2 r 0) = Rows.peak (fun i => k2_pay2 x g b (ix2 r i)) := by
  unfold k2_pay3
  dsimp only
  generalize k2_pay2 x g b = h
  exact peak_of h _ r (row_max (absf h) 0xFF800000#32 reduces_S1024x1024_S1024 (.inl rfl) rfl r)

/-- The eight-bit levels of a block's rows, from the rows' peaks `m`. -/
theorem level_of (h : FVec Ideal S1024x1024 .f32) (m : FVec Ideal S1024x1 .f32) (r i : Fin 1024)
    (hm : m (ix2 r 0) = Rows.peak (fun i => h (ix2 r i))) :
    minimumf (broadcast S1024x1024 (Scalar.ofBits .f32 0x42FE0000#32)) (maximumf (broadcast S1024x1024 (Scalar.ofBits .f32 0xC3000000#32))
      (roundeven (mulf h (broadcastTo S1024x1024 (divf (broadcast S1024x1 (Scalar.ofBits .f32 0x42FE0000#32)) m)
        broadcasts_S1024x1_S1024x1024)))) (ix2 r i)
      = Rows.level (fun i => h (ix2 r i)) i := by
  pointwise
  rw [hm]
  simp only [Rows.level, round_read]

/-- The eight-bit levels of the first layernorm's rows. -/
theorem level_in (x : Vec Ideal S1024x1024 .f32) (g b : Vec Ideal S1x1024 .f32) (r i : Fin 1024) :
    k2_pay4 x g b (ix2 r i) = Rows.level (fun i => k2_pay2 x g b (ix2 r i)) i := by
  unfold k2_pay4
  exact level_of (k2_pay2 x g b) (k2_pay3 x g b) r i (peak_in x g b r)

/-- The factor that scales levels back, from the rows' peaks `m`. -/
theorem scale_of (m : FVec Ideal S1024x1 .f32) (r : Fin 1024) :
    mulf m (broadcast S1024x1 (Named.named κ "inv_127" 0x3C010204#32)) (ix2 r 0) = m (ix2 r 0) * ((127⁻¹ : ℝ) : EReal) := by
  pointwise
  rw [inv_levels]

/-- What the first layernorm's levels are scaled back by. -/
theorem scale_in (x : Vec Ideal S1024x1024 .f32) (g b : Vec Ideal S1x1024 .f32) (r : Fin 1024) :
    k2_pay5 x g b (ix2 r 0) = Rows.peak (fun i => k2_pay2 x g b (ix2 r i)) * ((127⁻¹ : ℝ) : EReal) := by
  unfold k2_pay5
  rw [scale_of, peak_in]

/-- The second layernorm of a block, from levels `l` and the factors `s` that scale them back. -/
theorem norm_hidden (l : FVec Ideal S1024x1024 .f32) (s : FVec Ideal S1024x1 .f32) (w : Vec Ideal S1024x4096 .bf16)
    (c g b : Vec Ideal S1x4096 .f32) (r : Fin 1024) (p : Fin 4096) :
    k2_pay6 l s w c g b (ix2 r p) = Rows.norm (Ideal.ofBits .f32 0x45800000#32)
      (fun p => Rows.geluErf (Rows.linear (fun k => l (ix2 r k) * s (ix2 r 0)) (fun p k => w (ix2 k p)) (fun p => c (ix2 0 p)) p))
      (fun p => g (ix2 0 p)) (fun p => b (ix2 0 p)) p := by
  pointwise [k2_pay6]
  simp only [Rows.norm, Rows.standard, Rows.mean, Rows.geluErf, Rows.linear, erf_read]

/-- The second layer over a block `h` of hidden rows, from the rows' peaks `m`. -/
theorem layer_of (h : FVec Ideal S1024x4096 .f32) (m : FVec Ideal S1024x1 .f32) (v : Vec Ideal S4096x1024 .bf16)
    (d : Vec Ideal S1x1024 .f32) (r j : Fin 1024) (hm : m (ix2 r 0) = Rows.peak (fun i => h (ix2 r i))) :
    addf (matmul (φ₂ := .bf16) dot_S1024x4096_S4096x1024_S1024x1024_1_0_0_1_n_n none
      (truncf .bf16 (mulf
        (minimumf (broadcast S1024x4096 (Scalar.ofBits .f32 0x42FE0000#32)) (maximumf (broadcast S1024x4096 (Scalar.ofBits .f32 0xC3000000#32))
          (roundeven (mulf h (broadcastTo S1024x4096 (divf (broadcast S1024x1 (Scalar.ofBits .f32 0x42FE0000#32)) m)
            broadcasts_S1024x1_S1024x4096)))))
        (broadcastTo S1024x4096 (mulf m (broadcast S1024x1 (Named.named κ "inv_127" 0x3C010204#32))) broadcasts_S1024x1_S1024x4096))
        bitsLt_bf16_f32)
      (shapeCast S4096x1024 v shapeCasts_S4096x1024_S4096x1024) (constant S1024x1024 .f32 0x00000000#32))
      (broadcastTo S1024x1024 (shapeCast S1x1024 d shapeCasts_S1x1024_S1x1024) broadcasts_S1x1024_S1024x1024) (ix2 r j)
      = Rows.linear (Rows.actMul (fun p => h (ix2 r p))) (fun j p => v (ix2 p j)) (fun j => d (ix2 0 j)) j := by
  pointwise
  rw [inv_levels, hm]
  simp only [Rows.linear, Rows.actMul, Rows.level, round_read]

/-- The second layer's output over a block `h` of hidden rows. -/
theorem layer_out (h : FVec Ideal S1024x4096 .f32) (v : Vec Ideal S4096x1024 .bf16) (d : Vec Ideal S1x1024 .f32)
    (r j : Fin 1024) :
    k2_pay1 h (absf h) v d (ix2 r j) = Rows.linear (Rows.actMul (fun p => h (ix2 r p))) (fun j p => v (ix2 p j))
      (fun j => d (ix2 0 j)) j := by
  unfold k2_pay1
  exact layer_of h _ v d r j (peak_of h _ r (row_max (absf h) 0xFF800000#32 reduces_S1024x4096_S1024 (.inl rfl) rfl r))

/-- The second layernorm of a block is the row function's hidden row, the weights being given transposed and quantised. -/
theorem hidden (x : Vec Ideal S1024x1024 .f32) (g b : Vec Ideal S1x1024 .f32) (w : Vec Ideal S1024x4096 .bf16)
    (c g' b' : Vec Ideal S1x4096 .f32) (r : Fin 1024) (p : Fin 4096) :
    k2_pay6 (k2_pay4 x g b) (k2_pay5 x g b) w c g' b' (ix2 r p)
      = Rows.hiddenMul (Ideal.ofBits .f32 0x44800000#32) (Ideal.ofBits .f32 0x45800000#32) (fun k => x (ix2 r k))
        (fun k => g (ix2 0 k)) (fun k => b (ix2 0 k)) (fun p k => w (ix2 k p)) (fun p => c (ix2 0 p)) (fun p => g' (ix2 0 p))
        (fun p => b' (ix2 0 p)) p := by
  rw [norm_hidden]
  simp only [level_in, scale_in, norm_in]
  rfl

/-- The fused body's result over one block of rows. -/
theorem block_out (x : Vec Ideal S1024x1024 .f32) (g b : Vec Ideal S1x1024 .f32) (w : Vec Ideal S1024x4096 .bf16)
    (c g' b' : Vec Ideal S1x4096 .f32) (v : Vec Ideal S4096x1024 .bf16) (d : Vec Ideal S1x1024 .f32) (r j : Fin 1024) :
    k2_pay1 (k2_pay6 (k2_pay4 x g b) (k2_pay5 x g b) w c g' b') (k2_pay7 (k2_pay4 x g b) (k2_pay5 x g b) w c g' b') v d (ix2 r j)
      = Rows.linear (Rows.actMul (Rows.hiddenMul (Ideal.ofBits .f32 0x44800000#32) (Ideal.ofBits .f32 0x45800000#32)
        (fun k => x (ix2 r k)) (fun k => g (ix2 0 k)) (fun k => b (ix2 0 k)) (fun p k => w (ix2 k p)) (fun p => c (ix2 0 p))
        (fun p => g' (ix2 0 p)) (fun p => b' (ix2 0 p)))) (fun j p => v (ix2 p j)) (fun j => d (ix2 0 j)) j := by
  unfold k2_pay7
  refine (layer_out _ v d r j).trans ?_
  exact congrArg (fun h => Rows.linear (Rows.actMul h) _ _ j) (funext fun p => hidden x g b w c g' b' r p)

end Cert.KernelIdeal.Payloads

end
-- ==== Proof.Layers.lean ====
/- The layers as a region: after it, the result array holds, row by row, the value the bodies compute from the rows of the arrays it reads. -/
module

public import proofs.«01_k».proof.Proof.Gen.KernelIdeal.Frame
public import proofs.«01_k».proof.Proof.Payloads
public import Idealize.ShloMosaic.Lib.Pipeline.ValueKit

@[expose] public section

set_option maxRecDepth 16384

noncomputable section

namespace Cert.KernelIdeal.Regions

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- The step `t` reads the `t`-th block of 1024 rows. -/
theorem start_rows : ∀ t : Fin cfg2.N, win2_0.index t = ![(grid2.coords t 0).val, 0] := by decide +kernel
/-- Every step reads the first gain from its start. -/
theorem start_gain_in : ∀ t : Fin cfg2.N, win2_1.index t = ![0, 0] := by decide +kernel
/-- Every step reads the first offset from its start. -/
theorem start_offset_in : ∀ t : Fin cfg2.N, win2_2.index t = ![0, 0] := by decide +kernel
/-- Every step reads the first weights from their corner. -/
theorem start_weight_in : ∀ t : Fin cfg2.N, win2_3.index t = ![0, 0] := by decide +kernel
/-- Every step reads the first bias from its start. -/
theorem start_bias_in : ∀ t : Fin cfg2.N, win2_4.index t = ![0, 0] := by decide +kernel
/-- Every step reads the second gain from its start. -/
theorem start_gain_out : ∀ t : Fin cfg2.N, win2_5.index t = ![0, 0] := by decide +kernel
/-- Every step reads the second offset from its start. -/
theorem start_offset_out : ∀ t : Fin cfg2.N, win2_6.index t = ![0, 0] := by decide +kernel
/-- Every step reads the second weights from their corner. -/
theorem start_weight_out : ∀ t : Fin cfg2.N, win2_7.index t = ![0, 0] := by decide +kernel
/-- Every step reads the second bias from its start. -/
theorem start_bias_out : ∀ t : Fin cfg2.N, win2_8.index t = ![0, 0] := by decide +kernel
/-- The step `t` writes the `t`-th block of 1024 rows. -/
theorem start_result : ∀ t : Fin cfg2.N, win2_9.index t = ![(grid2.coords t 0).val, 0] := by decide +kernel

/-- The first gain's block is the whole gain. -/
theorem gain_in (c : Dev nD) (t : Fin cfg2.N) : iblk2 V c 1 t = V c main_v5 := by
  funext j; blk_simp [iblk2]; exact congrArg (V c main_v5) (by blk_ext [start_gain_in t])
/-- The first offset's block is the whole offset. -/
theorem offset_in (c : Dev nD) (t : Fin cfg2.N) : iblk2 V c 2 t = V c main_v6 := by
  funext j; blk_simp [iblk2]; exact congrArg (V c main_v6) (by blk_ext [start_offset_in t])
/-- The first weights' block is the whole matrix. -/
theorem weights_in (c : Dev nD) (t : Fin cfg2.N) : iblk2 V c 3 t = V c main_v2 := by
  funext j; blk_simp [iblk2]; exact congrArg (V c main_v2) (by blk_ext [start_weight_in t])
/-- The first bias's block is the whole bias. -/
theorem bias_in (c : Dev nD) (t : Fin cfg2.N) : iblk2 V c 4 t = V c main_v7 := by
  funext j; blk_simp [iblk2]; exact congrArg (V c main_v7) (by blk_ext [start_bias_in t])
/-- The second gain's block is the whole gain. -/
theorem gain_out (c : Dev nD) (t : Fin cfg2.N) : iblk2 V c 5 t = V c main_v8 := by
  funext j; blk_simp [iblk2]; exact congrArg (V c main_v8) (by blk_ext [start_gain_out t])
/-- The second offset's block is the whole offset. -/
theorem offset_out (c : Dev nD) (t : Fin cfg2.N) : iblk2 V c 6 t = V c main_v9 := by
  funext j; blk_simp [iblk2]; exact congrArg (V c main_v9) (by blk_ext [start_offset_out t])
/-- The second weights' block is the whole matrix. -/
theorem weights_out (c : Dev nD) (t : Fin cfg2.N) : iblk2 V c 7 t = V c main_v4 := by
  funext j; blk_simp [iblk2]; exact congrArg (V c main_v4) (by blk_ext [start_weight_out t])
/-- The second bias's block is the whole bias. -/
theorem bias_out (c : Dev nD) (t : Fin cfg2.N) : iblk2 V c 8 t = V c main_v10 := by
  funext j; blk_simp [iblk2]; exact congrArg (V c main_v10) (by blk_ext [start_bias_out t])

/-- Row `r` of the block the step `t` reads is row `1024 t + r` of the array. -/
theorem rows (c : Dev nD) (t : Fin cfg2.N) (r k : Fin 1024) (i : Fin 32768) (hi : i.val = (grid2.coords t 0).val * 1024 + r.val) :
    (iblk2 V c 0 t : Vec Ideal S1024x1024 .f32) (ix2 r k) = (V c main_v0 : Vec Ideal S32768x1024 .f32) (ix2 i k) := by
  blk_simp [iblk2]
  exact congrArg (V c main_v0) (by blk_ext [start_rows t])

/-- The layers on one row of an array of rows, with the other arrays as the region reads them. -/
def layerRow (x : Vec Ideal S32768x1024 .f32) (g b : Vec Ideal S1x1024 .f32) (w : Vec Ideal S1024x4096 .bf16)
    (c g' b' : Vec Ideal S1x4096 .f32) (v : Vec Ideal S4096x1024 .bf16) (d : Vec Ideal S1x1024 .f32) (i : Fin 32768) (j : Fin 1024) : EReal :=
  Rows.linear (Rows.actMul (Rows.hiddenMul (Ideal.ofBits .f32 0x44800000#32) (Ideal.ofBits .f32 0x45800000#32)
    (fun k => x (ix2 i k)) (fun k => g (ix2 0 k)) (fun k => b (ix2 0 k)) (fun p k => w (ix2 k p)) (fun p => c (ix2 0 p))
    (fun p => g' (ix2 0 p)) (fun p => b' (ix2 0 p)))) (fun j p => v (ix2 p j)) (fun j => d (ix2 0 j)) j

/-- The layers on a row, from the entries of the arrays: where the weights' entries are quantised ones, `Rows.rowMul`. -/
theorem layerRow_eq {x : Vec Ideal S32768x1024 .f32} {g b : Vec Ideal S1x1024 .f32} {w : Vec Ideal S1024x4096 .bf16}
    {c g' b' : Vec Ideal S1x4096 .f32} {v : Vec Ideal S4096x1024 .bf16} {d : Vec Ideal S1x1024 .f32} {i : Fin 32768} {j : Fin 1024}
    {X G B D : Fin 1024 → EReal} {C G' B' : Fin 4096 → EReal} {A : Fin 4096 → Fin 1024 → EReal} {E : Fin 1024 → Fin 4096 → EReal}
    (hx : ∀ k, x (ix2 i k) = X k) (hg : ∀ k, g (ix2 0 k) = G k) (hb : ∀ k, b (ix2 0 k) = B k)
    (hw : ∀ p k, w (ix2 k p) = Rows.weightMul A p k) (hc : ∀ p, c (ix2 0 p) = C p) (hg' : ∀ p, g' (ix2 0 p) = G' p)
    (hb' : ∀ p, b' (ix2 0 p) = B' p) (hv : ∀ p k, v (ix2 k p) = Rows.weightMul E p k) (hd : ∀ k, d (ix2 0 k) = D k) :
    layerRow x g b w c g' b' v d i j
      = Rows.rowMul (Ideal.ofBits .f32 0x44800000#32) (Ideal.ofBits .f32 0x45800000#32) X G B A C G' B' E D j := by
  unfold layerRow Rows.rowMul
  simp only [hx, hg, hb, hw, hc, hg', hb', hv, hd]

/-- The whole array of those rows. -/
def layerArray (c : Dev nD) : Vec Ideal S32768x1024 .f32 :=
  fun i => layerRow (V c main_v0) (V c main_v5) (V c main_v6) (V c main_v2) (V c main_v7) (V c main_v8) (V c main_v9) (V c main_v4)
    (V c main_v10) (i 0) (i 1)

/-- What the step `t` writes at row `r` and column `j` of its block. -/
theorem written (c : Dev nD) (t : Fin cfg2.N) (r j : Fin 1024) (i : Fin 32768) (hi : i.val = (grid2.coords t 0).val * 1024 + r.val) :
    (out2_9 (F := Ideal) (iblk2 V c 0 t) (iblk2 V c 1 t) (iblk2 V c 2 t) (iblk2 V c 3 t) (iblk2 V c 4 t) (iblk2 V c 5 t) (iblk2 V c 6 t)
      (iblk2 V c 7 t) (iblk2 V c 8 t) : Vec Ideal S1024x1024 .f32) (ix2 r j)
      = layerRow (V c main_v0) (V c main_v5) (V c main_v6) (V c main_v2) (V c main_v7) (V c main_v8) (V c main_v9) (V c main_v4)
          (V c main_v10) i j := by
  rw [gain_in, offset_in, weights_in, bias_in, gain_out, offset_out, weights_out, bias_out]
  unfold out2_9
  have at0 : ∀ a : Fin 2, (![0, 0] : Fin 2 → Nat) a = 0 := by decide
  rw [View.canon_cons_unit_lit _ _ _ at0]
  unfold k2_pay8 k2_pay9
  rw [View.ld_unit_lit (S := S1024x1024) _ _ at0, View.ld_unit_lit (S := S1x1024) _ _ at0, View.ld_unit_lit (S := S1x1024) _ _ at0,
    View.ld_unit_lit (S := S1024x4096) _ _ at0, View.ld_unit_lit (S := S1x4096) _ _ at0, View.ld_unit_lit (S := S1x4096) _ _ at0,
    View.ld_unit_lit (S := S1x4096) _ _ at0, View.ld_unit_lit (S := S4096x1024) _ _ at0, View.ld_unit_lit (S := S1x1024) _ _ at0]
  rw [Payloads.block_out]
  unfold layerRow
  simp only [rows V c t r _ i hi]

/-- The same at any index of the block, for the index of the array it is written to. -/
theorem written_at (c : Dev nD) (t : Fin cfg2.N) (y : S1024x1024.Idx) (i : S32768x1024.Idx)
    (h0 : (i 0).val = (grid2.coords t 0).val * 1024 + (y 0).val) (h1 : (i 1).val = (y 1).val) :
    (out2_9 (F := Ideal) (iblk2 V c 0 t) (iblk2 V c 1 t) (iblk2 V c 2 t) (iblk2 V c 3 t) (iblk2 V c 4 t) (iblk2 V c 5 t) (iblk2 V c 6 t)
      (iblk2 V c 7 t) (iblk2 V c 8 t) : Vec Ideal S1024x1024 .f32) y = layerArray V c i := by
  have e1 : i 1 = y 1 := Fin.ext h1
  have ey : y = ix2 (y 0) (y 1) := by funext a; match a with | ⟨0, _⟩ => rfl | ⟨1, _⟩ => rfl
  rw [ey]
  refine (written V c t (y 0) (y 1) (i 0) h0).trans ?_
  unfold layerArray
  rw [e1]

/-- The region's result array. -/
theorem layers (c : Dev nD) : (dat2 V c).arrAt 9 cfg2.N = layerArray V c := by
  refine (dat2 V c).arrAt_eq_of_covers 9 _ (by decide +kernel) fun t _ y => ?_
  blk_simp
  rw [after2_9]
  refine written_at V c t y _ ?_ ?_
  · blk_ext [start_result t]
  · blk_ext [start_result t]

end Cert.KernelIdeal.Regions

end
-- ==== Proof.KernelValue.lean ====
/- The kernel's result buffer at the end of a run, read back through the host operations and the regions to the launch memory. -/
module

public import proofs.«01_k».proof.Proof.Quantised
public import proofs.«01_k».proof.Proof.Layers
public import Idealize.ShloMosaic.Lib.StableHlo.Run

@[expose] public section

set_option maxRecDepth 16384

noncomputable section

namespace Cert.KernelIdeal.Value

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- Argument `a` as launched. -/
abbrev arg (a : Ref sig .tc) : Buf (Elt Ideal) ((c.tc : Thread nD τ).loc a) := m ((c.tc : Thread nD τ).loc a)

/-! ## The arrays as the layers' region finds them -/

/-- The rows: the input with its first two axes merged. -/
theorem rows_eq : (V5 m ρ c main_v0 : Vec Ideal S32768x1024 .f32)
    = shapeCast S32768x1024 (arg m c main_arg0 : Vec Ideal S8x4096x1024 .f32) shapeCasts_S8x4096x1024_S32768x1024 := by
  have e : W1 m ρ c (Proc.devRef .tc main_v0)
      = shapeCast S32768x1024 (arg m c main_arg0 : Vec Ideal S8x4096x1024 .f32) shapeCasts_S8x4096x1024_S32768x1024 := by
    unfold W1
    after_results_simp
    rfl
  exact (W5_of m ρ c main_v0 (by decide)).trans ((W4_of m ρ c main_v0 (by decide)).trans ((W3_of m ρ c main_v0 (by decide)).trans
    ((W2_of m ρ c main_v0 (by decide)).trans e)))

/-- The first weights: the quantised matrix, transposed. -/
theorem weights_in_eq : (V5 m ρ c main_v2 : Vec Ideal S1024x4096 .bf16)
    = transpose S1024x4096 [1, 0] (k0_pay1 (F := Ideal) (arg m c main_arg3)) transposes_S4096x1024_S1024x4096_1_0 := by
  have q : W2 m ρ c (Proc.devRef .tc main_v1) = k0_pay1 (F := Ideal) (arg m c main_arg3) :=
    (W2_arr m ρ c 1).trans ((Regions.quantised_in (V1 m ρ) c).trans
      (congrArg (k0_pay1 (F := Ideal)) (W1_args m ρ c main_arg3 (by decide))))
  have e : W3 m ρ c (Proc.devRef .tc main_v2)
      = transpose S1024x4096 [1, 0] (W2 m ρ c (Proc.devRef .tc main_v1) : Vec Ideal S4096x1024 .bf16)
          transposes_S4096x1024_S1024x4096_1_0 := by
    unfold W3
    after_results_simp
  rw [q] at e
  exact (W5_of m ρ c main_v2 (by decide)).trans ((W4_of m ρ c main_v2 (by decide)).trans e)

/-- The second weights: the quantised matrix, transposed. -/
theorem weights_out_eq : (V5 m ρ c main_v4 : Vec Ideal S4096x1024 .bf16)
    = transpose S4096x1024 [1, 0] (k1_pay1 (F := Ideal) (arg m c main_arg7)) transposes_S1024x4096_S4096x1024_1_0 := by
  have q : W4 m ρ c (Proc.devRef .tc main_v3) = k1_pay1 (F := Ideal) (arg m c main_arg7) :=
    (W4_arr m ρ c 1).trans ((Regions.quantised_out (V3 m ρ) c).trans
      (congrArg (k1_pay1 (F := Ideal)) (W3_args m ρ c main_arg7 (by decide))))
  have e : W5 m ρ c (Proc.devRef .tc main_v4)
      = transpose S4096x1024 [1, 0] (W4 m ρ c (Proc.devRef .tc main_v3) : Vec Ideal S1024x4096 .bf16)
          transposes_S1024x4096_S4096x1024_1_0 := by
    unfold W5
    after_results_simp
  rw [q] at e
  exact e

/-- The first gain's entries. -/
theorem gain_in_at (k : Fin 1024) :
    (V5 m ρ c main_v5 : Vec Ideal S1x1024 .f32) (ix2 0 k) = (arg m c main_arg1 : Vec Ideal S1024 .f32) (ix1 k) := by
  have e : V5 m ρ c main_v5
      = shapeCast S1x1024 (W4 m ρ c (Proc.devRef .tc main_arg1) : Vec Ideal S1024 .f32) shapeCasts_S1024_S1x1024 := by
    unfold V5 W5; after_results_simp; rfl
  rw [e, W4_args m ρ c main_arg1 (by decide)]
  pointwise

/-- The first offset's entries. -/
theorem offset_in_at (k : Fin 1024) :
    (V5 m ρ c main_v6 : Vec Ideal S1x1024 .f32) (ix2 0 k) = (arg m c main_arg2 : Vec Ideal S1024 .f32) (ix1 k) := by
  have e : V5 m ρ c main_v6
      = shapeCast S1x1024 (W4 m ρ c (Proc.devRef .tc main_arg2) : Vec Ideal S1024 .f32) shapeCasts_S1024_S1x1024 := by
    unfold V5 W5; after_results_simp; rfl
  rw [e, W4_args m ρ c main_arg2 (by decide)]
  pointwise

/-- The first bias's entries. -/
theorem bias_in_at (k : Fin 4096) :
    (V5 m ρ c main_v7 : Vec Ideal S1x4096 .f32) (ix2 0 k) = (arg m c main_arg4 : Vec Ideal S4096 .f32) (ix1 k) := by
  have e : V5 m ρ c main_v7
      = shapeCast S1x4096 (W4 m ρ c (Proc.devRef .tc main_arg4) : Vec Ideal S4096 .f32) shapeCasts_S4096_S1x4096 := by
    unfold V5 W5; after_results_simp; rfl
  rw [e, W4_args m ρ c main_arg4 (by decide)]
  pointwise

/-- The second gain's entries. -/
theorem gain_out_at (k : Fin 4096) :
    (V5 m ρ c main_v8 : Vec Ideal S1x4096 .f32) (ix2 0 k) = (arg m c main_arg5 : Vec Ideal S4096 .f32) (ix1 k) := by
  have e : V5 m ρ c main_v8
      = shapeCast S1x4096 (W4 m ρ c (Proc.devRef .tc main_arg5) : Vec Ideal S4096 .f32) shapeCasts_S4096_S1x4096 := by
    unfold V5 W5; after_results_simp; rfl
  rw [e, W4_args m ρ c main_arg5 (by decide)]
  pointwise

/-- The second offset's entries. -/
theorem offset_out_at (k : Fin 4096) :
    (V5 m ρ c main_v9 : Vec Ideal S1x4096 .f32) (ix2 0 k) = (arg m c main_arg6 : Vec Ideal S4096 .f32) (ix1 k) := by
  have e : V5 m ρ c main_v9
      = shapeCast S1x4096 (W4 m ρ c (Proc.devRef .tc main_arg6) : Vec Ideal S4096 .f32) shapeCasts_S4096_S1x4096 := by
    unfold V5 W5; after_results_simp; rfl
  rw [e, W4_args m ρ c main_arg6 (by decide)]
  pointwise

/-- The second bias's entries. -/
theorem bias_out_at (k : Fin 1024) :
    (V5 m ρ c main_v10 : Vec Ideal S1x1024 .f32) (ix2 0 k) = (arg m c main_arg8 : Vec Ideal S1024 .f32) (ix1 k) := by
  have e : V5 m ρ c main_v10
      = shapeCast S1x1024 (W4 m ρ c (Proc.devRef .tc main_arg8) : Vec Ideal S1024 .f32) shapeCasts_S1024_S1x1024 := by
    unfold V5 W5; after_results_simp; rfl
  rw [e, W4_args m ρ c main_arg8 (by decide)]
  pointwise

/-- An array of rows with its first axis split, at an index. -/
theorem split_at (y : Vec Ideal S32768x1024 .f32) (b : Fin 8) (t : Fin 4096) (j : Fin 1024) (h : b.val * 4096 + t.val < 32768) :
    shapeCast S8x4096x1024 y shapeCasts_S32768x1024_S8x4096x1024 (ix3 b t j) = y (ix2 ⟨b.val * 4096 + t.val, h⟩ j) := by
  pointwise

/-- An array with its first two axes merged, at an index. -/
theorem merge_at (x : Vec Ideal S8x4096x1024 .f32) (b : Fin 8) (t : Fin 4096) (k : Fin 1024) (h : b.val * 4096 + t.val < 32768) :
    shapeCast S32768x1024 x shapeCasts_S8x4096x1024_S32768x1024 (ix2 ⟨b.val * 4096 + t.val, h⟩ k) = x (ix3 b t k) := by
  rw [← split_at (shapeCast S32768x1024 x shapeCasts_S8x4096x1024_S32768x1024) b t k h, shapeCast_comp, shapeCast_id]

/-- The rows' entries: row `4096 b + t` is row `t` of batch `b`. -/
theorem rows_at (b : Fin 8) (t : Fin 4096) (k : Fin 1024) (h : b.val * 4096 + t.val < 32768) :
    (V5 m ρ c main_v0 : Vec Ideal S32768x1024 .f32) (ix2 ⟨b.val * 4096 + t.val, h⟩ k)
      = (arg m c main_arg0 : Vec Ideal S8x4096x1024 .f32) (ix3 b t k) := by
  rw [rows_eq]
  exact merge_at _ b t k h

/-- The first weights' entries. -/
theorem weights_in_at (p : Fin 4096) (k : Fin 1024) :
    (V5 m ρ c main_v2 : Vec Ideal S1024x4096 .bf16) (ix2 k p)
      = Rows.weightMul (fun p q => (arg m c main_arg3 : Vec Ideal S4096x1024 .f32) (ix2 p q)) p k := by
  rw [weights_in_eq]
  refine Eq.trans ?_ (Payloads.weight_in (arg m c main_arg3) p k)
  generalize k0_pay1 (F := Ideal) (arg m c main_arg3) = w
  pointwise

/-- The second weights' entries. -/
theorem weights_out_at (p : Fin 1024) (k : Fin 4096) :
    (V5 m ρ c main_v4 : Vec Ideal S4096x1024 .bf16) (ix2 k p)
      = Rows.weightMul (fun p q => (arg m c main_arg7 : Vec Ideal S1024x4096 .f32) (ix2 p q)) p k := by
  rw [weights_out_eq]
  refine Eq.trans ?_ (Payloads.weight_out (arg m c main_arg7) p k)
  generalize k1_pay1 (F := Ideal) (arg m c main_arg7) = w
  pointwise

/-! ## The result -/

/-- The result buffer: the layers' array with its first axis split in two. -/
theorem result_eq : (W7 m ρ c (Proc.devRef .tc main_v12) : Vec Ideal S8x4096x1024 .f32)
    = shapeCast S8x4096x1024 (Regions.layerArray (V5 m ρ) c) shapeCasts_S32768x1024_S8x4096x1024 := by
  have q : W6 m ρ c (Proc.devRef .tc main_v11) = Regions.layerArray (V5 m ρ) c :=
    (W6_arr m ρ c 9).trans (Regions.layers (V5 m ρ) c)
  have e : W7 m ρ c (Proc.devRef .tc main_v12)
      = shapeCast S8x4096x1024 (W6 m ρ c (Proc.devRef .tc main_v11) : Vec Ideal S32768x1024 .f32)
          shapeCasts_S32768x1024_S8x4096x1024 := by
    unfold W7; after_results_simp; rfl
  rw [q] at e
  exact e

/-- The result at batch `b`, row `t` and column `j`: the layers, with the quantisers multiplying, on that row. -/
theorem result_at (b : Fin 8) (t : Fin 4096) (j : Fin 1024) :
    (W7 m ρ c (Proc.devRef .tc main_v12) : Vec Ideal S8x4096x1024 .f32) (ix3 b t j)
      = Rows.rowMul (Ideal.ofBits .f32 0x44800000#32) (Ideal.ofBits .f32 0x45800000#32)
          (fun k => (arg m c main_arg0 : Vec Ideal S8x4096x1024 .f32) (ix3 b t k))
          (fun k => (arg m c main_arg1 : Vec Ideal S1024 .f32) (ix1 k)) (fun k => (arg m c main_arg2 : Vec Ideal S1024 .f32) (ix1 k))
          (fun p q => (arg m c main_arg3 : Vec Ideal S4096x1024 .f32) (ix2 p q))
          (fun p => (arg m c main_arg4 : Vec Ideal S4096 .f32) (ix1 p)) (fun p => (arg m c main_arg5 : Vec Ideal S4096 .f32) (ix1 p))
          (fun p => (arg m c main_arg6 : Vec Ideal S4096 .f32) (ix1 p))
          (fun p q => (arg m c main_arg7 : Vec Ideal S1024x4096 .f32) (ix2 p q))
          (fun j => (arg m c main_arg8 : Vec Ideal S1024 .f32) (ix1 j)) j := by
  have h : b.val * 4096 + t.val < 32768 := by omega
  rw [result_eq, split_at _ b t j h]
  show Regions.layerRow (V5 m ρ c main_v0) (V5 m ρ c main_v5) (V5 m ρ c main_v6) (V5 m ρ c main_v2) (V5 m ρ c main_v7) (V5 m ρ c main_v8)
    (V5 m ρ c main_v9) (V5 m ρ c main_v4) (V5 m ρ c main_v10) ⟨b.val * 4096 + t.val, h⟩ j = _
  exact Regions.layerRow_eq (fun k => rows_at m ρ c b t k h) (gain_in_at m ρ c) (offset_in_at m ρ c) (weights_in_at m ρ c) (bias_in_at m ρ c)
    (gain_out_at m ρ c) (offset_out_at m ρ c) (weights_out_at m ρ c) (bias_out_at m ρ c)

end Cert.KernelIdeal.Value

end
-- ==== Proof.KernelRun.lean ====
/- The run of the kernel's whole program with the value of its result buffer, beside the arguments it leaves unchanged. -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the program ends with the result buffer at its contents past the last host operation, and with every argument as
    launched. -/
theorem run : θ_run defs (onTc (τ := τ) (main (F := Ideal))) ⟨m, fun _ => 0, ρ⟩ (fun r => ∀ c : Dev nD,
      r.2.mem ((c.tc : Thread nD τ).loc main_v12) = W7 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v12 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Value

end
-- ==== Proof.Reference.lean ====
/- What the reference's operations compute, entry by entry: each step of the reference, read at one position of one row, is the
   step of the row function. Both layers take the same steps, at rows of different widths, so the width is a parameter. -/
module

public import proofs.«01_k».proof.Proof.Gen.ReferenceIdeal
public import proofs.«01_k».proof.Proof.Rows
public import Idealize.ShloMosaic.Lib.Pointwise

@[expose] public section

set_option maxRecDepth 16384

noncomputable section

namespace Cert.ReferenceIdeal.Reads

open Idealize.ShloMosaic Cert.ReferenceIdeal Cert.ReferenceIdeal.Gen

/-- The array of all rows, of width `n`. -/
abbrev All (n : ℕ) : Shape := ⟨3, ![8, 4096, n]⟩

/-- A matrix. -/
abbrev Mat (a b : ℕ) : Shape := ⟨2, ![a, b]⟩

section rows

variable {n : ℕ} (b : Fin 8) (t : Fin 4096) (x : FVec Ideal (All n) .f32)

/-- A row's mean, the width being the word `w`. -/
theorem mean_row (w : BitVec 32) (hr : (All n).ReducesTo [2] S8x4096) :
    Host.divf (broadcastInDim S8x4096x1 ![0, 1] bcast_S8x4096_S8x4096x1_0_1
        (Host.reduceAdd x (constant S_ .f32 0x00000000#32) hr h_S_))
      (broadcastInDim S8x4096x1 ![] bcast_S_S8x4096x1 (constant S_ .f32 w)) (ix3 b t 0)
      = Rows.mean (Ideal.ofBits .f32 w) (fun k => x (ix3 b t k)) := by
  pointwise
  simp only [Rows.mean]

/-- A row's entry less a number given per row, such as its mean. -/
theorem centre_row (m : FVec Ideal S8x4096x1 .f32) (hb : S8x4096x1.BroadcastsInDim (All n) ![0, 1, 2]) (i : Fin n) :
    subf x (broadcastInDim (All n) ![0, 1, 2] hb m) (ix3 b t i) = x (ix3 b t i) - m (ix3 b t 0) := by
  pointwise

/-- The mean of a row's squared distances `d` from a number given per row. -/
theorem var_row (d : FVec Ideal (All n) .f32) (m : EReal) (w : BitVec 32) (hr : (All n).ReducesTo [2] S8x4096)
    (hd : ∀ k, d (ix3 b t k) = x (ix3 b t k) - m) :
    Host.divf (broadcastInDim S8x4096x1 ![0, 1] bcast_S8x4096_S8x4096x1_0_1
        (Host.reduceAdd (mulf d d) (constant S_ .f32 0x00000000#32) hr h_S_))
      (broadcastInDim S8x4096x1 ![] bcast_S_S8x4096x1 (constant S_ .f32 w)) (ix3 b t 0)
      = Rows.mean (Ideal.ofBits .f32 w) (fun k => (x (ix3 b t k) - m) * (x (ix3 b t k) - m)) := by
  pointwise
  simp only [hd, Rows.mean]

/-- A layernorm's entry, from the row's mean `m`, the mean `s` of its squared distances from it, and the gains `g` and offsets
    `o` spread over the rows. -/
theorem norm_row (m s : FVec Ideal S8x4096x1 .f32) (g o : FVec Ideal (All n) .f32) (N : EReal) (g' o' : Fin n → EReal) (i : Fin n)
    (hb : S8x4096x1.BroadcastsInDim (All n) ![0, 1, 2])
    (hm : m (ix3 b t 0) = Rows.mean N (fun k => x (ix3 b t k)))
    (hs : s (ix3 b t 0) = Rows.mean N (fun k => (x (ix3 b t k) - m (ix3 b t 0)) * (x (ix3 b t k) - m (ix3 b t 0))))
    (hg : g (ix3 b t i) = g' i) (ho : o (ix3 b t i) = o' i) :
    addf (mulf (mulf (subf x (broadcastInDim (All n) ![0, 1, 2] hb m))
        (broadcastInDim (All n) ![0, 1, 2] hb (Host.rsqrt (addf s
          (broadcastInDim S8x4096x1 ![] bcast_S_S8x4096x1 (constant S_ .f32 0x3727C5AC#32)))))) g) o (ix3 b t i)
      = Rows.norm N (fun k => x (ix3 b t k)) g' o' i := by
  pointwise
  rw [hs, hm, hg, ho]
  simp only [Rows.norm, Rows.standard]

/-- A row's largest entry. -/
theorem max_row (hr : (All n).ReducesTo [2] S8x4096) :
    Host.reduce FloatOps.maximumf x (constant S_ .f32 0xFF800000#32) hr h_S_ (ix2 b t)
      = Finset.univ.fold max (Ideal.ofBits .f32 0xFF800000#32) (fun k => x (ix3 b t k)) := by
  pointwise

/-- A row's scale, from the row's largest absolute value `m`. -/
theorem scale_row (m : FVec Ideal S8x4096 .f32)
    (hm : m (ix2 b t) = Finset.univ.fold max (Ideal.ofBits .f32 0xFF800000#32) (fun k => Host.absf x (ix3 b t k))) :
    Host.divf (broadcastInDim S8x4096x1 ![] bcast_S_S8x4096x1 (constant S_ .f32 0x42FE0000#32))
      (maximumf (broadcastInDim S8x4096x1 ![] bcast_S_S8x4096x1 (id (constant S_ .f32 0x3727C5AC#32)))
        (broadcastInDim S8x4096x1 ![0, 1] bcast_S8x4096_S8x4096x1_0_1 m)) (ix3 b t 0)
      = Ideal.div (Ideal.ofBits .f32 0x42FE0000#32) (Rows.peak (fun i => x (ix3 b t i))) := by
  pointwise
  rw [hm, max_comm]
  rfl

/-- A quantised entry, from the row's scale `s`. -/
theorem act_row (s : FVec Ideal S8x4096x1 .f32) (hb : S8x4096x1.BroadcastsInDim (All n) ![0, 1, 2])
    (hc : S_.BroadcastsInDim (All n) ![]) (i : Fin n)
    (hs : s (ix3 b t 0) = Ideal.div (Ideal.ofBits .f32 0x42FE0000#32) (Rows.peak (fun i => x (ix3 b t i)))) :
    Host.divf (minimumf (broadcastInDim (All n) ![] hc (id (constant S_ .f32 0x42FE0000#32)))
        (maximumf (broadcastInDim (All n) ![] hc (id (constant S_ .f32 0xC3000000#32)))
          (Host.roundeven (mulf x (broadcastInDim (All n) ![0, 1, 2] hb s)))))
      (broadcastInDim (All n) ![0, 1, 2] hb s) (ix3 b t i)
      = Rows.actDiv (fun i => x (ix3 b t i)) i := by
  pointwise
  rw [hs]
  rfl

end rows

section weights

variable {n k : ℕ} (w : FVec Ideal (Mat n k) .f32)

/-- A weight matrix's scale. -/
theorem size_mat (hr : (Mat n k).ReducesTo [0, 1] S_) (j : S_.Idx) :
    Host.divf (constant S_ .f32 0x3F800000#32) (maximumf (id (constant S_ .f32 0x3727C5AC#32))
      (Host.divf (Host.reduceAdd (Host.absf w) (constant S_ .f32 0x00000000#32) hr h_S_) (constant S_ .f32 0x4A800000#32))) j
      = Ideal.div 1 (Rows.sizeDiv (fun p q => w (ix2 p q))) := by
  pointwise
  rfl

/-- A quantised weight, from the matrix's scale `s`. -/
theorem weight_mat (s : FVec Ideal S_ .f32) (hc : S_.BroadcastsInDim (Mat n k) ![]) (p : Fin n) (q : Fin k)
    (hs : ∀ j, s j = Ideal.div 1 (Rows.sizeDiv (fun p q => w (ix2 p q)))) :
    Host.divf (minimumf (broadcastInDim (Mat n k) ![] hc (id (constant S_ .f32 0x3F800000#32)))
        (maximumf (broadcastInDim (Mat n k) ![] hc (id (constant S_ .f32 0xBF800000#32)))
          (Host.roundeven (mulf w (broadcastInDim (Mat n k) ![] hc s)))))
      (broadcastInDim (Mat n k) ![] hc s) (ix2 p q)
      = Rows.weightDiv (fun p q => w (ix2 p q)) p q := by
  pointwise
  simp only [hs]
  show Ideal.div (min (Ideal.ofBits .f32 0x3F800000#32) _) _ = _
  rw [Ideal.ofBits_one_f32]
  rfl

end weights

/-- A vector of 1024 spread over the rows. -/
theorem spread_in (g : FVec Ideal S1024 .f32) (b : Fin 8) (t : Fin 4096) (i : Fin 1024) :
    broadcastInDim S8x4096x1024 ![0, 1, 2] bcast_S1x1x1024_S8x4096x1024_0_1_2
      (broadcastInDim S1x1x1024 ![2] bcast_S1024_S1x1x1024_2 g) (ix3 b t i) = g (ix1 i) := by
  pointwise

/-- A vector of 4096 spread over the rows. -/
theorem spread_hidden (g : FVec Ideal S4096 .f32) (b : Fin 8) (t i : Fin 4096) :
    broadcastInDim S8x4096x4096 ![0, 1, 2] bcast_S1x1x4096_S8x4096x4096_0_1_2
      (broadcastInDim S1x1x4096 ![2] bcast_S4096_S1x1x4096_2 g) (ix3 b t i) = g (ix1 i) := by
  pointwise

/-- The first linear layer's entry. -/
theorem linear_in (a : FVec Ideal S8x4096x1024 .f32) (w : FVec Ideal S4096x1024 .f32) (c : FVec Ideal S8x4096x4096 .f32)
    (b : Fin 8) (t p : Fin 4096) (c' : Fin 4096 → EReal) (hc : c (ix3 b t p) = c' p) :
    addf (Host.dotGeneral dot_S8x4096x1024_S4096x1024_S8x4096x4096_2_1_01_0_n_n none a w) c (ix3 b t p)
      = Rows.linear (fun k => a (ix3 b t k)) (fun p k => w (ix2 p k)) c' p := by
  pointwise
  rw [hc]
  rfl

/-- The second linear layer's entry. -/
theorem linear_out (a : FVec Ideal S8x4096x4096 .f32) (w : FVec Ideal S1024x4096 .f32) (c : FVec Ideal S8x4096x1024 .f32)
    (b : Fin 8) (t : Fin 4096) (j : Fin 1024) (c' : Fin 1024 → EReal) (hc : c (ix3 b t j) = c' j) :
    addf (Host.dotGeneral dot_S8x4096x4096_S1024x4096_S8x4096x1024_2_1_01_0_n_n none a w) c (ix3 b t j)
      = Rows.linear (fun k => a (ix3 b t k)) (fun j k => w (ix2 j k)) c' j := by
  pointwise
  rw [hc]
  rfl

/-- The activation of one entry. -/
theorem gelu (u : FVec Ideal S8x4096x4096 .f32) (b : Fin 8) (t p : Fin 4096) :
    mulf (mulf (broadcastInDim S8x4096x4096 ![] bcast_S_S8x4096x4096 (constant S_ .f32 0x3F000000#32)) u)
      (Host.erfc (mulf (Host.negf u) (broadcastInDim S8x4096x4096 ![] bcast_S_S8x4096x4096 (constant S_ .f32 0x3F3504F3#32)))) (ix3 b t p)
      = Rows.geluErfc (u (ix3 b t p)) := by
  pointwise
  rfl

end Cert.ReferenceIdeal.Reads

end
-- ==== Proof.ReferenceValue.lean ====
/- The reference's result: at every position of every row it is the row function, in the form the reference states it in. -/
module

public import proofs.«01_k».proof.Proof.Gen.ReferenceIdeal.Run
public import proofs.«01_k».proof.Proof.Reference

@[expose] public section

set_option maxRecDepth 16384

noncomputable section

namespace Cert.ReferenceIdeal.Reads

open Idealize.ShloMosaic Cert.ReferenceIdeal Cert.ReferenceIdeal.Gen Cert.ReferenceIdeal.Value Idealize.ShloMosaic.StableHlo

variable (V : Valuation τ sig (Elt Ideal))

/-! The arguments, at contents `V` of the buffers. -/

abbrev x : FVec Ideal S8x4096x1024 .f32 := V (Proc.devRef .tc main_arg0)
abbrev g₁ : FVec Ideal S1024 .f32 := V (Proc.devRef .tc main_arg1)
abbrev o₁ : FVec Ideal S1024 .f32 := V (Proc.devRef .tc main_arg2)
abbrev w₁ : FVec Ideal S4096x1024 .f32 := V (Proc.devRef .tc main_arg3)
abbrev c₁ : FVec Ideal S4096 .f32 := V (Proc.devRef .tc main_arg4)
abbrev g₂ : FVec Ideal S4096 .f32 := V (Proc.devRef .tc main_arg5)
abbrev o₂ : FVec Ideal S4096 .f32 := V (Proc.devRef .tc main_arg6)
abbrev w₂ : FVec Ideal S1024x4096 .f32 := V (Proc.devRef .tc main_arg7)
abbrev c₂ : FVec Ideal S1024 .f32 := V (Proc.devRef .tc main_arg8)

/-- The words of the two widths. -/
abbrev N : EReal := Ideal.ofBits .f32 0x44800000#32
abbrev M : EReal := Ideal.ofBits .f32 0x45800000#32

variable (b : Fin 8) (t : Fin 4096)

/-- The rows after the first layernorm, after the first layer's activation, and after the second layernorm. -/
abbrev h₁ : FVec Ideal S8x4096x1024 .f32 := res_main_v23 V
abbrev u : FVec Ideal S8x4096x4096 .f32 := res_main_v57 V
abbrev h₂ : FVec Ideal S8x4096x4096 .f32 := res_main_v81 V

/-- The first layernorm's mean. -/
theorem mean₁ : (res_main_v3 V : FVec Ideal S8x4096x1 .f32) (ix3 b t 0) = Rows.mean N (fun k => x V (ix3 b t k)) := by
  unfold res_main_v3
  exact mean_row b t (x V) _ _

/-- The first layernorm's centred rows. -/
theorem centre₁ (k : Fin 1024) : (res_main_v5 V : FVec Ideal S8x4096x1024 .f32) (ix3 b t k)
    = x V (ix3 b t k) - (res_main_v3 V : FVec Ideal S8x4096x1 .f32) (ix3 b t 0) := by
  unfold res_main_v5
  exact centre_row b t (x V) (res_main_v3 V) _ k

/-- The first layernorm. -/
theorem norm₁ (i : Fin 1024) : h₁ V (ix3 b t i)
    = Rows.norm N (fun k => x V (ix3 b t k)) (fun k => g₁ V (ix1 k)) (fun k => o₁ V (ix1 k)) i := by
  unfold h₁ res_main_v23
  exact norm_row b t (x V) (res_main_v3 V) _ _ _ N _ _ i _ (mean₁ V b t)
    (var_row b t (x V) (res_main_v5 V) _ _ _ (centre₁ V b t)) (spread_in (g₁ V) b t i) (spread_in (o₁ V) b t i)

/-- The first activation quantiser's scale. -/
theorem scale₁ : (res_main_v29 V : FVec Ideal S8x4096x1 .f32) (ix3 b t 0)
    = Ideal.div (Ideal.ofBits .f32 0x42FE0000#32) (Rows.peak (fun i => h₁ V (ix3 b t i))) := by
  unfold res_main_v29
  exact scale_row b t (h₁ V) _ (max_row b t (Host.absf (h₁ V)) _)

/-- The first weight matrix's scale. -/
theorem size₁ (j : S_.Idx) : (res_main_v40 V : FVec Ideal S_ .f32) j = Ideal.div 1 (Rows.sizeDiv (fun p q => w₁ V (ix2 p q))) := by
  unfold res_main_v40
  exact size_mat (w₁ V) _ j

/-- The first linear layer. -/
theorem linear₁ (p : Fin 4096) : (res_main_v50 V : FVec Ideal S8x4096x4096 .f32) (ix3 b t p)
    = Rows.linear (Rows.actDiv (fun i => h₁ V (ix3 b t i))) (Rows.weightDiv (fun p q => w₁ V (ix2 p q))) (fun p => c₁ V (ix1 p)) p := by
  unfold res_main_v50
  refine (linear_in _ _ _ b t p (fun p => c₁ V (ix1 p)) (spread_hidden (c₁ V) b t p)).trans ?_
  refine congrArg₂ (fun a w => Rows.linear a w _ p) (funext fun k => ?_) (funext fun p => funext fun k => ?_)
  · exact act_row b t (h₁ V) (res_main_v29 V) _ _ k (scale₁ V b t)
  · exact weight_mat (w₁ V) (res_main_v40 V) _ p k (size₁ V)

/-- The activation. -/
theorem gelu₁ (p : Fin 4096) : u V (ix3 b t p) = Rows.geluErfc ((res_main_v50 V : FVec Ideal S8x4096x4096 .f32) (ix3 b t p)) := by
  unfold u res_main_v57
  exact gelu (res_main_v50 V) b t p

/-- The second layernorm's mean. -/
theorem mean₂ : (res_main_v61 V : FVec Ideal S8x4096x1 .f32) (ix3 b t 0) = Rows.mean M (fun k => u V (ix3 b t k)) := by
  unfold res_main_v61
  exact mean_row b t (u V) _ _

/-- The second layernorm's centred rows. -/
theorem centre₂ (k : Fin 4096) : (res_main_v63 V : FVec Ideal S8x4096x4096 .f32) (ix3 b t k)
    = u V (ix3 b t k) - (res_main_v61 V : FVec Ideal S8x4096x1 .f32) (ix3 b t 0) := by
  unfold res_main_v63
  exact centre_row b t (u V) (res_main_v61 V) _ k

/-- The second layernorm. -/
theorem norm₂ (i : Fin 4096) : h₂ V (ix3 b t i)
    = Rows.norm M (fun k => u V (ix3 b t k)) (fun k => g₂ V (ix1 k)) (fun k => o₂ V (ix1 k)) i := by
  unfold h₂ res_main_v81
  exact norm_row b t (u V) (res_main_v61 V) _ _ _ M _ _ i _ (mean₂ V b t)
    (var_row b t (u V) (res_main_v63 V) _ _ _ (centre₂ V b t)) (spread_hidden (g₂ V) b t i) (spread_hidden (o₂ V) b t i)

/-- The second activation quantiser's scale. -/
theorem scale₂ : (res_main_v87 V : FVec Ideal S8x4096x1 .f32) (ix3 b t 0)
    = Ideal.div (Ideal.ofBits .f32 0x42FE0000#32) (Rows.peak (fun i => h₂ V (ix3 b t i))) := by
  unfold res_main_v87
  exact scale_row b t (h₂ V) _ (max_row b t (Host.absf (h₂ V)) _)

/-- The second weight matrix's scale. -/
theorem size₂ (j : S_.Idx) : (res_main_v98 V : FVec Ideal S_ .f32) j = Ideal.div 1 (Rows.sizeDiv (fun p q => w₂ V (ix2 p q))) := by
  unfold res_main_v98
  exact size_mat (w₂ V) _ j

/-- The rows after the second layernorm are the row function's hidden rows. -/
theorem hidden (i : Fin 4096) : h₂ V (ix3 b t i)
    = Rows.hiddenDiv N M (fun k => x V (ix3 b t k)) (fun k => g₁ V (ix1 k)) (fun k => o₁ V (ix1 k))
      (Rows.weightDiv (fun p q => w₁ V (ix2 p q))) (fun p => c₁ V (ix1 p)) (fun p => g₂ V (ix1 p)) (fun p => o₂ V (ix1 p)) i := by
  rw [norm₂]
  simp only [gelu₁, linear₁, norm₁]
  rfl

/-- The result, at one position of one row. -/
theorem result (j : Fin 1024) : (val3 V (Proc.devRef .tc main_v108) : FVec Ideal S8x4096x1024 .f32) (ix3 b t j)
    = Rows.rowDiv N M (fun k => x V (ix3 b t k)) (fun k => g₁ V (ix1 k)) (fun k => o₁ V (ix1 k)) (fun p q => w₁ V (ix2 p q))
      (fun p => c₁ V (ix1 p)) (fun p => g₂ V (ix1 p)) (fun p => o₂ V (ix1 p)) (fun p q => w₂ V (ix2 p q)) (fun j => c₂ V (ix1 j)) j := by
  rw [val3_main_v108]
  refine (linear_out _ _ _ b t j (fun j => c₂ V (ix1 j)) (spread_in (c₂ V) b t j)).trans ?_
  refine congrArg₂ (fun a w => Rows.linear a w _ j) (funext fun k => ?_) (funext fun p => funext fun k => ?_)
  · exact (act_row b t (h₂ V) (res_main_v87 V) _ _ k (scale₂ V b t)).trans
      (congrArg (fun h => Rows.actDiv h k) (funext fun i => hidden V b t i))
  · exact weight_mat (w₂ V) (res_main_v98 V) _ p k (size₂ V)

end Cert.ReferenceIdeal.Reads

end
-- ==== Proof.Words.lean ====
/- The float words that the two programs write out, as the extended reals they denote at the ideal instance. Only these few
   values matter to the proof: the sizes that means divide by, the small offset `1e-5`, the level count 127, the size of a
   weight matrix and its reciprocal. The other words stand on both sides alike and are never opened. -/
module

public import Idealize.ShloMosaic.PureOps.Ideal

@[expose] public section

noncomputable section

namespace Cert.Words

open Idealize.ShloMosaic

/-- The width of the input rows, `1024.0`, is the real 1024. -/
theorem width_in : Ideal.ofBits .f32 0x44800000#32 = ((1024 : ℝ) : EReal) := by
  simp [Ideal.ofBits, Ideal.ieee, -EReal.coe_mul]; norm_num

/-- The width of the hidden rows, `4096.0`, is the real 4096. -/
theorem width_hidden : Ideal.ofBits .f32 0x45800000#32 = ((4096 : ℝ) : EReal) := by
  simp [Ideal.ofBits, Ideal.ieee, -EReal.coe_mul]; norm_num

/-- The word printed for `1e-5` is a positive real. -/
theorem small_pos : ∃ r : ℝ, 0 < r ∧ Ideal.ofBits .f32 0x3727C5AC#32 = (r : EReal) :=
  ⟨10995116 * (2 : ℝ)⁻¹ ^ 40, by positivity, by
    simp [Ideal.ofBits, Ideal.ieee, -EReal.coe_mul]⟩

/-- `127.0` is the real 127. -/
theorem levels : Ideal.ofBits .f32 0x42FE0000#32 = ((127 : ℝ) : EReal) := by
  simp [Ideal.ofBits, Ideal.ieee, -EReal.coe_mul]; norm_num

/-- The number of entries of a weight matrix is the real 4194304. -/
theorem entries : Ideal.ofBits .f32 0x4A800000#32 = ((4194304 : ℝ) : EReal) := by
  simp [Ideal.ofBits, Ideal.ieee, -EReal.coe_mul]; norm_num

/-- The factor the kernel writes for that number's reciprocal is exactly the reciprocal. -/
theorem inv_entries : Ideal.ofBits .f32 0x34800000#32 = ((1 / 4194304 : ℝ) : EReal) := by
  simp [Ideal.ofBits, Ideal.ieee, -EReal.coe_mul]; norm_num

/-- The word that a row's maximum starts from is minus infinity. -/
theorem neg_inf : Ideal.ofBits .f32 0xFF800000#32 = ⊥ := by
  simp [Ideal.ofBits, Ideal.ieee]

/-- The word that the precondition compares with is plus infinity. -/
theorem pos_inf : Ideal.ofBits .f32 0x7F800000#32 = ⊤ := by
  simp [Ideal.ofBits, Ideal.ieee]

end Cert.Words

end
-- ==== Proof.RowEquation.lean ====
/- The kernel's row is the reference's row. The gains, the offsets and the weights must be real numbers; the input row and the
   biases may hold infinities. The one place where that needs an argument is the layernorm: whatever the row, a deviation times
   the reciprocal root of the variance is a real number, because an infinite deviation makes the variance infinite and the
   reciprocal root zero. So the peak of what is quantised is a positive real, and multiplying by `peak / 127` is dividing
   by `127 / peak`. -/
module

public import proofs.«01_k».proof.Proof.Rows
public import proofs.«01_k».proof.Proof.Words

@[expose] public section

noncomputable section

namespace Cert.Rows

open Idealize.ShloMosaic

/-- An extended real that is a real number. -/
def IsReal (x : EReal) : Prop := ∃ r : ℝ, x = (r : EReal)

/-- What is neither infinity is a real number. -/
theorem isReal_of_ne {x : EReal} (ht : x ≠ ⊤) (hb : x ≠ ⊥) : IsReal x := ⟨x.toReal, (EReal.coe_toReal ht hb).symm⟩

/-- What lies between a real number and plus infinity, the latter excluded, is a real number. -/
theorem isReal_of_between {x : EReal} {r : ℝ} (hlo : (r : EReal) ≤ x) (hhi : x < ⊤) : IsReal x :=
  isReal_of_ne hhi.ne (ne_bot_of_le_ne_bot (EReal.coe_ne_bot r) hlo)

/-- The larger of a real number and its negative is below plus infinity. -/
theorem abs_lt_top {x : EReal} (h : IsReal x) : max x (-x) < ⊤ := by
  obtain ⟨r, rfl⟩ := h
  exact max_lt (EReal.coe_lt_top r) (by rw [← EReal.coe_neg]; exact EReal.coe_lt_top _)

/-- A number whose absolute value is below plus infinity is real. -/
theorem isReal_of_abs_lt {x : EReal} (h : max x (-x) < ⊤) : IsReal x := by
  refine isReal_of_ne (fun e => ?_) (fun e => ?_)
  · subst e; simp at h
  · subst e; simp at h

/-- A sum of real numbers is a real number. -/
theorem sum_isReal {n : ℕ} (f : Fin n → EReal) (h : ∀ k, IsReal (f k)) : IsReal (∑ k, f k) :=
  Finset.sum_induction f IsReal (fun x y ⟨r, hr⟩ ⟨s, hs⟩ => ⟨r + s, by rw [hr, hs, EReal.coe_add]⟩) ⟨0, rfl⟩ fun k _ => h k

/-- A square is not negative. -/
theorem square_nonneg (x : EReal) : 0 ≤ x * x := by
  induction x with
  | bot => simp
  | coe r => rw [← EReal.coe_mul]; exact_mod_cast mul_self_nonneg r
  | top => simp

/-- An extended real that is not real squares to plus infinity. -/
theorem square_top {x : EReal} (h : ¬ IsReal x) : x * x = ⊤ := by
  induction x with
  | bot => simp
  | coe r => exact absurd ⟨r, rfl⟩ h
  | top => simp

/-- The entries of a standardised row are real numbers, whatever the row holds. -/
theorem standard_isReal {n : ℕ} {N : ℝ} (hN : 0 < N) (x : Fin n → EReal) (i : Fin n) :
    IsReal (standard (N : EReal) x i) := by
  obtain ⟨e, he, hw⟩ := Words.small_pos
  unfold standard
  rw [hw]
  set d : Fin n → EReal := fun k => x k - mean (N : EReal) x with hd
  have hs : (0 : EReal) ≤ ∑ k, d k * d k := Finset.sum_nonneg fun k _ => square_nonneg _
  have hv : mean (N : EReal) (fun k => d k * d k) = (∑ k, d k * d k) * ((1 / N : ℝ) : EReal) := Ideal.div_coe hN.ne' _
  have hp : (0 : EReal) < ((1 / N : ℝ) : EReal) := by exact_mod_cast one_div_pos.mpr hN
  have hv0 : (0 : EReal) ≤ mean (N : EReal) (fun k => d k * d k) := by rw [hv]; exact mul_nonneg hs hp.le
  change IsReal (d i * Ideal.rsqrt (mean (N : EReal) (fun k => d k * d k) + (e : EReal)))
  by_cases hreal : IsReal (d i)
  · obtain ⟨r, hr⟩ := hreal
    rw [hr]
    induction hm : mean (N : EReal) (fun k => d k * d k) with
    | bot => rw [hm] at hv0; simp at hv0
    | top => exact ⟨0, by rw [EReal.top_add_coe]; simp⟩
    | coe t =>
      rw [hm] at hv0
      have ht : 0 < t + e := add_pos_of_nonneg_of_pos (by exact_mod_cast hv0) he
      rw [← EReal.coe_add, Ideal.rsqrt_coe, if_neg ht.not_gt, if_neg ht.ne', ← EReal.coe_mul]
      exact ⟨_, rfl⟩
  · have ht : ∑ k, d k * d k = ⊤ := by
      refine top_le_iff.mp ?_
      rw [← square_top hreal]
      exact Finset.single_le_sum (f := fun k => d k * d k) (fun k _ => square_nonneg _) (Finset.mem_univ i)
    rw [hv, ht, EReal.top_mul_of_pos hp, EReal.top_add_coe, Ideal.rsqrt_top, mul_zero]
    exact ⟨0, rfl⟩

/-- The layernorm of any row is real where its gain and its offset are. -/
theorem norm_isReal {n : ℕ} {N : ℝ} (hN : 0 < N) (x : Fin n → EReal) {g b : Fin n → EReal} (hg : ∀ i, IsReal (g i))
    (hb : ∀ i, IsReal (b i)) (i : Fin n) : IsReal (norm (N : EReal) x g b i) := by
  obtain ⟨s, hs⟩ := standard_isReal hN x i
  obtain ⟨r, hr⟩ := hg i
  obtain ⟨t, ht⟩ := hb i
  exact ⟨s * r + t, by rw [norm, hs, hr, ht]; push_cast; rfl⟩

/-- The peak of a row of real numbers is a positive real. -/
theorem peak_pos {n : ℕ} {h : Fin n → EReal} (hh : ∀ i, IsReal (h i)) : ∃ p : ℝ, 0 < p ∧ peak h = (p : EReal) := by
  obtain ⟨e, he, hw⟩ := Words.small_pos
  have hlo : (e : EReal) ≤ peak h := by unfold peak; rw [hw]; exact le_max_right _ _
  have hhi : peak h < ⊤ := by
    unfold peak
    rw [hw, Words.neg_inf]
    exact max_lt (Finset.fold_max_lt _ |>.mpr ⟨bot_lt_top, fun k _ => abs_lt_top (hh k)⟩) (EReal.coe_lt_top e)
  obtain ⟨p, hp⟩ := isReal_of_between hlo hhi
  exact ⟨p, he.trans_le (by rw [hp] at hlo; exact_mod_cast hlo), hp⟩

/-- On a row of real numbers the two ways of scaling the levels back agree. -/
theorem act_eq {n : ℕ} {h : Fin n → EReal} (hh : ∀ i, IsReal (h i)) : actMul h = actDiv h := by
  obtain ⟨p, hp, hpk⟩ := peak_pos hh
  funext i
  unfold actMul actDiv
  rw [hpk, Words.levels, Ideal.div_coe hp.ne', ← EReal.coe_mul, ← EReal.coe_mul,
    Ideal.div_coe (mul_pos (by norm_num) (one_div_pos.mpr hp)).ne']
  congr 2
  field_simp

/-- The two ways of taking a matrix's mean absolute value agree. -/
theorem size_eq {a b : ℕ} (w : Fin a → Fin b → EReal) : sizeMul w = sizeDiv w := by
  unfold sizeMul sizeDiv total
  rw [Words.entries, Words.inv_entries, Ideal.div_coe (by norm_num), max_comm, Finset.sum_comm]

/-- The mean absolute value of a matrix of real numbers, kept above `1e-5`, is a positive real. -/
theorem size_pos {a b : ℕ} {w : Fin a → Fin b → EReal} (hw : ∀ p q, IsReal (w p q)) :
    ∃ m : ℝ, 0 < m ∧ sizeDiv w = (m : EReal) := by
  obtain ⟨e, he, hs⟩ := Words.small_pos
  have habs : ∀ p q, IsReal (max (w p q) (-w p q)) := fun p q => by
    obtain ⟨r, hr⟩ := hw p q
    exact ⟨max r (-r), by rw [hr, ← EReal.coe_neg]; exact (EReal.coe_strictMono.monotone.map_max).symm⟩
  have hreal : IsReal (total w) := sum_isReal _ fun p => sum_isReal _ fun q => habs p q
  obtain ⟨t, ht⟩ := hreal
  refine ⟨max e (t * (1 / 4194304)), lt_max_of_lt_left he, ?_⟩
  unfold sizeDiv
  rw [hs, ht, Words.entries, Ideal.div_coe (by norm_num), ← EReal.coe_mul]
  exact (EReal.coe_strictMono.monotone.map_max).symm

/-- On a matrix of real numbers the two ways of scaling the ternary weights back agree. -/
theorem weight_eq {a b : ℕ} {w : Fin a → Fin b → EReal} (hw : ∀ p q, IsReal (w p q)) : weightMul w = weightDiv w := by
  obtain ⟨m, hm, hs⟩ := size_pos hw
  funext p q
  unfold weightMul weightDiv
  rw [size_eq, hs, Ideal.div_coe hm.ne', one_mul, Ideal.div_coe (one_div_pos.mpr hm).ne', one_div_one_div]

/-- The two ways of writing the gelu agree everywhere: the error function is odd. -/
theorem gelu_eq : geluErf = geluErfc := by
  funext u
  unfold geluErf geluErfc
  rw [EReal.neg_mul, Ideal.erfc_neg]

/-- The kernel's row is the reference's row, where the gains, the offsets and the weights are real. -/
theorem row_eq {n m : ℕ} {N M : ℝ} (hN : 0 < N) (hM : 0 < M) (x : Fin n → EReal) {g b : Fin n → EReal}
    {w : Fin m → Fin n → EReal} (c : Fin m → EReal) {g' b' : Fin m → EReal} {v : Fin n → Fin m → EReal} (d : Fin n → EReal)
    (hg : ∀ i, IsReal (g i)) (hb : ∀ i, IsReal (b i)) (hw : ∀ p q, IsReal (w p q))
    (hg' : ∀ i, IsReal (g' i)) (hb' : ∀ i, IsReal (b' i)) (hv : ∀ p q, IsReal (v p q)) :
    rowMul (N : EReal) (M : EReal) x g b w c g' b' v d = rowDiv (N : EReal) (M : EReal) x g b w c g' b' v d := by
  have hh : hiddenMul (N : EReal) (M : EReal) x g b (weightMul w) c g' b'
      = hiddenDiv (N : EReal) (M : EReal) x g b (weightDiv w) c g' b' := by
    unfold hiddenMul hiddenDiv
    rw [gelu_eq, act_eq (norm_isReal hN x hg hb), weight_eq hw]
  unfold rowMul rowDiv
  have hr : ∀ i, IsReal (hiddenDiv (N : EReal) (M : EReal) x g b (weightDiv w) c g' b' i) :=
    fun i => norm_isReal hM _ hg' hb' i
  rw [hh, weight_eq hv, act_eq hr]

end Cert.Rows

end
-- ==== Proof.Finite.lean ====
/- What the precondition says: the gains, the offsets and the weights are real numbers. -/
module

public import proofs.«01_k».proof.Defs
public import proofs.«01_k».proof.Proof.RowEquation
public import proofs.«01_k».proof.Proof.Words
public import Idealize.ShloMosaic.Lib.Pointwise

@[expose] public section

noncomputable section

namespace Cert.Pre_finite_weights

open Idealize.ShloMosaic Idealize.SL.Sem

/-- The scalar of the precondition's comparisons spreads over each argument's shape. -/
instance facts : Facts := ⟨by decide, by decide, by decide, by decide⟩

/-- A comparison's bit is set exactly when the comparison holds. -/
theorem bit_set (p : Bool) : BitVec.ofBool p = 1#1 ↔ p = true := by cases p <;> simp

/-- One comparison of the precondition: where the magnitude compares below plus infinity, the entry is a real number. -/
theorem isReal_of_bit {s : Shape} (h : S_.BroadcastsInDim s (![] : Fin 0 → Fin s.rank)) (x : FVec Ideal s .f32)
    (e : (cmpf .olt (Host.absf x) (broadcastInDim s ![] h (constant (F := Ideal) S_ .f32 0x7F800000#32)) : IVec s 1) = fun _ => 1#1)
    (i : s.Idx) : Rows.IsReal (x i) := by
  have p := congrFun e i
  refine Rows.isReal_of_abs_lt ?_
  have q : BitVec.ofBool (decide (max (x i) (-x i) < Ideal.ofBits .f32 0x7F800000#32)) = 1#1 := p
  rw [bit_set, Words.pos_inf] at q
  exact of_decide_eq_true q

end Cert.Pre_finite_weights

end
-- ==== Proof.Agreement.lean ====
/- The kernel and the reference agree: from memories holding the same arguments, with the gains, the offsets and the weights finite,
   both programs leave the same result. -/
module

public import proofs.«01_k».proof.Defs
public import proofs.«01_k».proof.Proof.KernelValue
public import proofs.«01_k».proof.Proof.KernelRun
public import proofs.«01_k».proof.Proof.ReferenceValue
public import proofs.«01_k».proof.Proof.Finite

@[expose] public section

noncomputable section

namespace Cert.Agreement

open Idealize.ShloMosaic Idealize.ShloMosaic.TcCoe Idealize.SL.Sem

/-- An argument of the kernel's program, as launched. -/
abbrev argK (m : (ℓ : Loc KernelIdeal.nD KernelIdeal.τ KernelIdeal.sig) → Buf (Elt Ideal) ℓ) (c : Dev KernelIdeal.nD)
    (a : Ref KernelIdeal.sig .tc) : Buf (Elt Ideal) ((c.tc : Thread KernelIdeal.nD KernelIdeal.τ).loc a) := m ((c.tc : Thread KernelIdeal.nD KernelIdeal.τ).loc a)

/-- An argument of the reference's program, as launched. -/
abbrev argR (m : (ℓ : Loc ReferenceIdeal.nD ReferenceIdeal.τ ReferenceIdeal.sig) → Buf (Elt Ideal) ℓ) (c : Dev ReferenceIdeal.nD)
    (a : Ref ReferenceIdeal.sig .tc) : Buf (Elt Ideal) ((c.tc : Thread ReferenceIdeal.nD ReferenceIdeal.τ).loc a) := m ((c.tc : Thread ReferenceIdeal.nD ReferenceIdeal.τ).loc a)

variable (m : (ℓ : Loc KernelIdeal.nD KernelIdeal.τ KernelIdeal.sig) → Buf (Elt Ideal) ℓ) (g : Dev KernelIdeal.nD → PrngReg)
  (m' : (ℓ : Loc ReferenceIdeal.nD ReferenceIdeal.τ ReferenceIdeal.sig) → Buf (Elt Ideal) ℓ) (g' : Dev ReferenceIdeal.nD → PrngReg)

/-- The two result buffers at one index. -/
theorem entry (pre : Pre_KernelIdeal_finite_weights m) (c : Dev KernelIdeal.nD)
    (e : argR m' c ReferenceIdeal.main_arg0 = argK m c KernelIdeal.main_arg0 ∧ argR m' c ReferenceIdeal.main_arg1 = argK m c KernelIdeal.main_arg1
      ∧ argR m' c ReferenceIdeal.main_arg2 = argK m c KernelIdeal.main_arg2 ∧ argR m' c ReferenceIdeal.main_arg3 = argK m c KernelIdeal.main_arg3
      ∧ argR m' c ReferenceIdeal.main_arg4 = argK m c KernelIdeal.main_arg4 ∧ argR m' c ReferenceIdeal.main_arg5 = argK m c KernelIdeal.main_arg5
      ∧ argR m' c ReferenceIdeal.main_arg6 = argK m c KernelIdeal.main_arg6 ∧ argR m' c ReferenceIdeal.main_arg7 = argK m c KernelIdeal.main_arg7
      ∧ argR m' c ReferenceIdeal.main_arg8 = argK m c KernelIdeal.main_arg8)
    (b : Fin 8) (t : Fin 4096) (j : Fin 1024) :
    (ReferenceIdeal.Value.val3 (StableHlo.launchContents m' c) (Proc.devRef .tc ReferenceIdeal.main_v108)
        : FVec Ideal ReferenceIdeal.S8x4096x1024 .f32) (ix3 b t j)
      = (KernelIdeal.Gen.W7 m g c (Proc.devRef .tc KernelIdeal.main_v12) : Vec Ideal KernelIdeal.S8x4096x1024 .f32) (ix3 b t j) := by
  obtain ⟨e0, e1, e2, e3, e4, e5, e6, e7, e8⟩ := e
  obtain ⟨p1, p2, p3, p5, p6, p7⟩ := pre c
  rw [KernelIdeal.Value.result_at m g c b t j, ReferenceIdeal.Reads.result _ b t j]
  unfold ReferenceIdeal.Reads.N ReferenceIdeal.Reads.M
  rw [Words.width_in, Words.width_hidden,
    Rows.row_eq (by norm_num) (by norm_num) _ _ _ (fun i => Pre_finite_weights.isReal_of_bit _ _ p1 (ix1 i))
      (fun i => Pre_finite_weights.isReal_of_bit _ _ p2 (ix1 i)) (fun p q => Pre_finite_weights.isReal_of_bit _ _ p3 (ix2 p q))
      (fun i => Pre_finite_weights.isReal_of_bit _ _ p5 (ix1 i)) (fun i => Pre_finite_weights.isReal_of_bit _ _ p6 (ix1 i))
      (fun p q => Pre_finite_weights.isReal_of_bit _ _ p7 (ix2 p q))]
  show Rows.rowDiv _ _ (fun k => argR m' c ReferenceIdeal.main_arg0 (ix3 b t k)) (fun k => argR m' c ReferenceIdeal.main_arg1 (ix1 k))
    (fun k => argR m' c ReferenceIdeal.main_arg2 (ix1 k)) (fun p q => argR m' c ReferenceIdeal.main_arg3 (ix2 p q))
    (fun p => argR m' c ReferenceIdeal.main_arg4 (ix1 p)) (fun p => argR m' c ReferenceIdeal.main_arg5 (ix1 p))
    (fun p => argR m' c ReferenceIdeal.main_arg6 (ix1 p)) (fun p q => argR m' c ReferenceIdeal.main_arg7 (ix2 p q))
    (fun j => argR m' c ReferenceIdeal.main_arg8 (ix1 j)) j = _
  rw [e0, e1, e2, e3, e4, e5, e6, e7, e8]

/-- Arrays of batches of rows are equal when they are at every batch, row and column. -/
theorem ext_rows {y z : Vec Ideal KernelIdeal.S8x4096x1024 .f32}
    (h : ∀ (b : Fin 8) (t : Fin 4096) (j : Fin 1024), y (ix3 b t j) = z (ix3 b t j)) : y = z := by
  funext i
  have e : i = ix3 (i 0) (i 1) (i 2) := by
    funext a
    match a with
    | ⟨0, _⟩ => rfl
    | ⟨1, _⟩ => rfl
    | ⟨2, _⟩ => rfl
  rw [e]
  exact h _ _ _

/-- The two programs agree, as claimed. -/
theorem algebraic : algebraic_KernelIdeal_ReferenceIdeal_pre_finite_weights := by
  intro m g m' g' pre same
  refine ⟨fun c => KernelIdeal.Gen.W7 m g c (Proc.devRef .tc KernelIdeal.main_v12), KernelIdeal.Value.run m g, ?_⟩
  refine (θ_run _ _ _).mono (fun r h c => ⟨((h c).1.trans (ReferenceIdeal.Value.val3_main_v108 (StableHlo.launchContents m' c)).symm).trans ?_,
    (h c).2⟩) (ReferenceIdeal.Value.run m' g')
  exact ext_rows fun b t j => ( entry m g m' pre c (same c) b t j)

end Cert.Agreement

end
-- ==== Proof.lean ====
/- The certificate. The three programs end with their arguments unchanged; naming the reciprocal of 127 is the only change to the kernel;
   and, where the gains, the offsets and the weights are finite, kernel and reference leave the same result. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Agreement
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged and with every counter at zero. -/
theorem frame_reference : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The named kernel differs from the compiled one only in the name of the reciprocal of 127. -/
theorem preserves : preserves_Kernel_KernelIdeal :=
  IdealRules.named_const.statement Cert.KernelIdeal.κ "inv_127" .f32 0x3C010204#32 ((127⁻¹ : ℝ) : EReal) rfl

/-- Everything the certificate claims. -/
theorem claim : Cert.Claim :=
  ⟨Cert.Kernel.Gen.facts, Cert.KernelIdeal.Gen.facts, Cert.ReferenceIdeal.Gen.facts, Cert.Pre_finite_weights.facts,
    fun m g _ => Cert.Kernel.Gen.frame m g, fun m g _ => Cert.KernelIdeal.Gen.frame m g, fun m g _ => Cert.KernelIdeal.Gen.frame m g,
    frame_reference, fun m g _ => frame_reference m g trivial, preserves, Cert.Agreement.algebraic⟩

end Cert.Proof

end
